-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨4, ![16, 1024, 16, 64]⟩ ⟨4, ![16, 4096, 16, 64]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![16, 1024, 16, 64]⟩ ⟨4, ![16, 4096, 16, 64]⟩ 1 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S16x1x16x64 : Shape := ⟨4, ![16, 1, 16, 64]⟩
abbrev S16x1024x16x64 : Shape := ⟨4, ![16, 1024, 16, 64]⟩
abbrev S_ : Shape := ⟨0, ![]⟩

class Facts : Prop where
  bcast_S_S16x1x16x64 : S_.BroadcastsInDim S16x1x16x64 (![] : Fin 0 → Fin S16x1x16x64.rank)
  bcast_S_S16x1024x16x64 : S_.BroadcastsInDim S16x1024x16x64 (![] : Fin 0 → Fin S16x1024x16x64.rank)

variable [Facts]

def fn {F : FTy → Type} [FloatOps F] (main_arg0 : FVec F S16x1x16x64 .bf16) (main_arg1 : FVec F S16x1024x16x64 .bf16) (main_arg2 : FVec F S16x1024x16x64 .bf16) : IVec S16x1x16x64 1 × IVec S16x1024x16x64 1 :=
  let main_v0 : FVec F S16x1x16x64 .bf16 := Host.absf main_arg0
  let main_cst : FVec F S_ .bf16 := constant S_ .bf16 0x7F80#16
  let main_v1 : FVec F S16x1x16x64 .bf16 := broadcastInDim S16x1x16x64 ![] bcast_S_S16x1x16x64 main_cst
  let main_v2 : IVec S16x1x16x64 1 := cmpf .olt main_v0 main_v1
  let main_v3 : FVec F S16x1024x16x64 .bf16 := Host.absf main_arg1
  let main_cst_0 : FVec F S_ .bf16 := constant S_ .bf16 0x7F80#16
  let main_v4 : FVec F S16x1024x16x64 .bf16 := broadcastInDim S16x1024x16x64 ![] bcast_S_S16x1024x16x64 main_cst_0
  let main_v5 : IVec S16x1024x16x64 1 := cmpf .olt main_v3 main_v4
  (main_v2, main_v5)
-- ==== Pre_finite_ReferenceIdeal.lean ====
abbrev S16x1x16x64 : Shape := ⟨4, ![16, 1, 16, 64]⟩
abbrev S16x4096x16x64 : Shape := ⟨4, ![16, 4096, 16, 64]⟩
abbrev S_ : Shape := ⟨0, ![]⟩

class Facts : Prop where
  bcast_S_S16x1x16x64 : S_.BroadcastsInDim S16x1x16x64 (![] : Fin 0 → Fin S16x1x16x64.rank)
  bcast_S_S16x4096x16x64 : S_.BroadcastsInDim S16x4096x16x64 (![] : Fin 0 → Fin S16x4096x16x64.rank)

variable [Facts]

def fn {F : FTy → Type} [FloatOps F] (main_arg0 : FVec F S16x1x16x64 .bf16) (main_arg1 : FVec F S16x4096x16x64 .bf16) (main_arg2 : FVec F S16x4096x16x64 .bf16) : IVec S16x1x16x64 1 × IVec S16x4096x16x64 1 :=
  let main_v0 : FVec F S16x1x16x64 .bf16 := Host.absf main_arg0
  let main_cst : FVec F S_ .bf16 := constant S_ .bf16 0x7F80#16
  let main_v1 : FVec F S16x1x16x64 .bf16 := broadcastInDim S16x1x16x64 ![] bcast_S_S16x1x16x64 main_cst
  let main_v2 : IVec S16x1x16x64 1 := cmpf .olt main_v0 main_v1
  let main_v3 : FVec F S16x4096x16x64 .bf16 := Host.absf main_arg1
  let main_cst_0 : FVec F S_ .bf16 := constant S_ .bf16 0x7F80#16
  let main_v4 : FVec F S16x4096x16x64 .bf16 := broadcastInDim S16x4096x16x64 ![] bcast_S_S16x4096x16x64 main_cst_0
  let main_v5 : IVec S16x4096x16x64 1 := cmpf .olt main_v3 main_v4
  (main_v2, main_v5)
-- ==== Kernel.lean ====
abbrev S16x1x16x64 : Shape := ⟨4, ![16, 1, 16, 64]⟩
abbrev S16x1024x16x64 : Shape := ⟨4, ![16, 1024, 16, 64]⟩
abbrev S16x16x64x1024 : Shape := ⟨4, ![16, 16, 64, 1024]⟩
abbrev S1x1x16x64 : Shape := ⟨4, ![1, 1, 16, 64]⟩
abbrev S1x16x64x1024 : Shape := ⟨4, ![1, 16, 64, 1024]⟩
abbrev S4x16x16x128 : Shape := ⟨4, ![4, 16, 16, 128]⟩
abbrev S3x16 : Shape := ⟨2, ![3, 16]⟩
abbrev S4x16 : Shape := ⟨2, ![4, 16]⟩
abbrev S_ : Shape := ⟨0, ![]⟩
abbrev S16x64 : Shape := ⟨2, ![16, 64]⟩
abbrev S16x64x1024 : Shape := ⟨3, ![16, 64, 1024]⟩
abbrev S1024x1024 : Shape := ⟨2, ![1024, 1024]⟩
abbrev S16x1024 : Shape := ⟨2, ![16, 1024]⟩
abbrev S16 : Shape := ⟨1, ![16]⟩
abbrev S16x1 : Shape := ⟨2, ![16, 1]⟩
abbrev S16x1x1024 : Shape := ⟨3, ![16, 1, 1024]⟩
abbrev S1024 : Shape := ⟨1, ![1024]⟩
abbrev S1x1x16x1 : Shape := ⟨4, ![1, 1, 16, 1]⟩
abbrev S1x1 : Shape := ⟨2, ![1, 1]⟩
abbrev S1x1x16x128 : Shape := ⟨4, ![1, 1, 16, 128]⟩
abbrev S16x128 : Shape := ⟨2, ![16, 128]⟩
abbrev S4x16x16x1 : Shape := ⟨4, ![4, 16, 16, 1]⟩
abbrev S4x16x16 : Shape := ⟨3, ![4, 16, 16]⟩
abbrev S16x16 : Shape := ⟨2, ![16, 16]⟩
abbrev S1x16x16 : Shape := ⟨3, ![1, 16, 16]⟩
abbrev S4x16x16x64 : Shape := ⟨4, ![4, 16, 16, 64]⟩
abbrev S16x16x64 : Shape := ⟨3, ![16, 16, 64]⟩
abbrev S16x16x1 : Shape := ⟨3, ![16, 16, 1]⟩

abbrev nBuf : Space → Nat
  | .hbm => 6
  | .vmem => 8
  | .smem => 0
  | _ => 0

abbrev bufTy : (tb : Table) → Fin (tcTables nBuf tb) → BufTy
  | .hbm, ⟨0, _⟩ => ⟨S16x1x16x64, .bf16⟩
  | .hbm, ⟨1, _⟩ => ⟨S16x1024x16x64, .bf16⟩
  | .hbm, ⟨2, _⟩ => ⟨S16x1024x16x64, .bf16⟩
  | .hbm, ⟨3, _⟩ => ⟨S16x16x64x1024, .bf16⟩
  | .hbm, ⟨4, _⟩ => ⟨S16x16x64x1024, .bf16⟩
  | .hbm, ⟨5, _⟩ => ⟨S16x1x16x64, .f32⟩
  | .local _ .vmem, ⟨0, _⟩ => ⟨S1x1x16x64, .bf16⟩
  | .local _ .vmem, ⟨1, _⟩ => ⟨S1x1x16x64, .bf16⟩
  | .local _ .vmem, ⟨2, _⟩ => ⟨S1x16x64x1024, .bf16⟩
  | .local _ .vmem, ⟨3, _⟩ => ⟨S1x16x64x1024, .bf16⟩
  | .local _ .vmem, ⟨4, _⟩ => ⟨S1x16x64x1024, .bf16⟩
  | .local _ .vmem, ⟨5, _⟩ => ⟨S1x16x64x1024, .bf16⟩
  | .local _ .vmem, ⟨6, _⟩ => ⟨S16x1x16x64, .f32⟩
  | .local _ .vmem, ⟨7, _⟩ => ⟨S4x16x16x128, .f32⟩
  | _, _ => ⟨S16x1x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 119 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | _ => false

abbrev sig : RefSig :=
  (ofTc nBuf bufTy 1 119 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev barrier0 : Sem sig := 0

abbrev nD : Nat := 4
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_54 : BitVec 32 := 1#32
  let v120 : BitVec 32 := Scalar.addi v2 c1_i32_54
  let c4_i32_55 : BitVec 32 := 4#32
  let v121 : BitVec 32 := Scalar.remsi v120 c4_i32_55
  let c1_i32_57 : BitVec 32 := 1#32
  let v122 : BitVec 32 := Scalar.muli v121 c1_i32_57
  let v123 : BitVec 32 := Scalar.addi c0_i32_58 v122
  v123.toNat
def k0_dev2 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_59 : BitVec 32 := 2#32
  let v124 : BitVec 32 := Scalar.addi v2 c2_i32_59
  let c4_i32_60 : BitVec 32 := 4#32
  let v125 : BitVec 32 := Scalar.remsi v124 c4_i32_60
  let c1_i32_62 : BitVec 32 := 1#32
  let v126 : BitVec 32 := Scalar.muli v125 c1_i32_62
  let v127 : BitVec 32 := Scalar.addi c0_i32_63 v126
  v127.toNat
def k0_dev3 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_64 : BitVec 32 := 3#32
  let v128 : BitVec 32 := Scalar.addi v2 c3_i32_64
  let c4_i32_65 : BitVec 32 := 4#32
  let v129 : BitVec 32 := Scalar.remsi v128 c4_i32_65
  let c1_i32_67 : BitVec 32 := 1#32
  let v130 : BitVec 32 := Scalar.muli v129 c1_i32_67
  let v131 : BitVec 32 := Scalar.addi c0_i32_68 v130
  v131.toNat
def k0_off1 (i : grid0.Coords) (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v63 : Index := Scalar.indexCast v2
  let arg0 : BitVec 32 := BitVec.ofNat 32 (i 0).val
  let v64 : Index := Scalar.indexCast arg0
  let c0_24 : Index := 0#32
  let c0_25 : Index := 0#32
  ![v63.toNat, v64.toNat, 0, 0]
def k0_off2 (i : grid0.Coords) (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v69 : Index := Scalar.indexCast v2
  let arg0 : BitVec 32 := BitVec.ofNat 32 (i 0).val
  let v70 : Index := Scalar.indexCast arg0
  let c0_26 : Index := 0#32
  let c64 : Index := 64#32
  ![v69.toNat, v70.toNat, 0, 64]
def k0_off3 (i : grid0.Coords) (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v75 : Index := Scalar.indexCast v2
  let arg0 : BitVec 32 := BitVec.ofNat 32 (i 0).val
  let v76 : Index := Scalar.indexCast arg0
  let c0_27 : Index := 0#32
  let c65 : Index := 65#32
  ![v75.toNat, v76.toNat, 0, 65]
def k0_off4 (i : grid0.Coords) : Fin 2 → Nat :=
  let c0_i32_30 : BitVec 32 := 0#32
  let arg0 : BitVec 32 := BitVec.ofNat 32 (i 0).val
  ![0, arg0.toNat]
def k0_off5 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  ![v2.toNat, arg0.toNat]
def k0_off6 (i : grid0.Coords) (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let c0_i32_33 : BitVec 32 := 0#32
  let c0_i32_34 : BitVec 32 := 0#32
  ![v2.toNat, arg0.toNat, 0, 0]
def k0_dev4 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v80 : BitVec 32 := Scalar.addi v2 c1_i32_28
  let c4_i32_29 : BitVec 32 := 4#32
  let v81 : BitVec 32 := Scalar.remsi v80 c4_i32_29
  let c1_i32_31 : BitVec 32 := 1#32
  let v82 : BitVec 32 := Scalar.muli v81 c1_i32_31
  let v83 : BitVec 32 := Scalar.addi c0_i32_32 v82
  v83.toNat
def k0_off7 (i : grid0.Coords) : Fin 2 → Nat :=
  let c1_i32_38 : BitVec 32 := 1#32
  let arg0 : BitVec 32 := BitVec.ofNat 32 (i 0).val
  ![1, arg0.toNat]
def k0_dev5 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v92 : BitVec 32 := Scalar.addi v2 c2_i32
  let c4_i32_37 : BitVec 32 := 4#32
  let v93 : BitVec 32 := Scalar.remsi v92 c4_i32_37
  let c1_i32_39 : BitVec 32 := 1#32
  let v94 : BitVec 32 := Scalar.muli v93 c1_i32_39
  let v95 : BitVec 32 := Scalar.addi c0_i32_40 v94
  v95.toNat
def k0_off8 (i : grid0.Coords) : Fin 2 → Nat :=
  let c2_i32_46 : BitVec 32 := 2#32
  let arg0 : BitVec 32 := BitVec.ofNat 32 (i 0).val
  ![2, arg0.toNat]
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v104 : BitVec 32 := Scalar.addi v2 c3_i32
  let c4_i32_45 : BitVec 32 := 4#32
  let v105 : BitVec 32 := Scalar.remsi v104 c4_i32_45
  let c1_i32_47 : BitVec 32 := 1#32
  let v106 : BitVec 32 := Scalar.muli v105 c1_i32_47
  let v107 : BitVec 32 := Scalar.addi c0_i32_48 v106
  v107.toNat
def k0_cond2 (i : grid0.Coords) : BitVec 1 :=
  let arg0 : BitVec 32 := BitVec.ofNat 32 (i 0).val
  let c15_i32 : BitVec 32 := 15#32
  let v116 : BitVec 1 := Scalar.cmpi .eq arg0 c15_i32
  let v117 : BitVec 32 := Scalar.extui v116
  let c0_i32_53 : BitVec 32 := 0#32
  let v118 : BitVec 1 := Scalar.cmpi .ne v117 c0_i32_53
  v118

def k0_off9 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_57 : BitVec 32 := 0#32
  let c0_i32_62 : BitVec 32 := 0#32
  let c0_i32_63 : BitVec 32 := 0#32
  ![v2.toNat, 0, 0, 0]
def k0_off10 (d0 : Dev nD) (c1_i32_54 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v119 : BitVec 32 := Scalar.addi v2 c1_i32_54
  let c4_i32_55 : BitVec 32 := 4#32
  let v120 : BitVec 32 := Scalar.remsi v119 c4_i32_55
  let c0_i32_56 : BitVec 32 := 0#32
  let c0_i32_64 : BitVec 32 := 0#32
  let c0_i32_65 : BitVec 32 := 0#32
  ![v120.toNat, 0, 0, 0]
def k0_off11 (d0 : Dev nD) (c1_i32_54 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v119 : BitVec 32 := Scalar.addi v2 c1_i32_54
  let c4_i32_55 : BitVec 32 := 4#32
  let v120 : BitVec 32 := Scalar.remsi v119 c4_i32_55
  let c0_i32_68 : BitVec 32 := 0#32
  ![v120.toNat, 0]
def k0_off12 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_126 : BitVec 32 := 1#32
  let c0_i32_131 : BitVec 32 := 0#32
  let c0_i32_132 : BitVec 32 := 0#32
  ![v2.toNat, 1, 0, 0]
def k0_off13 (d0 : Dev nD) (c1_i32_123 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v167 : BitVec 32 := Scalar.addi v2 c1_i32_123
  let c4_i32_124 : BitVec 32 := 4#32
  let v168 : BitVec 32 := Scalar.remsi v167 c4_i32_124
  let c1_i32_125 : BitVec 32 := 1#32
  let c0_i32_133 : BitVec 32 := 0#32
  let c0_i32_134 : BitVec 32 := 0#32
  ![v168.toNat, 1, 0, 0]
def k0_off14 (d0 : Dev nD) (c1_i32_123 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v167 : BitVec 32 := Scalar.addi v2 c1_i32_123
  let c4_i32_124 : BitVec 32 := 4#32
  let v168 : BitVec 32 := Scalar.remsi v167 c4_i32_124
  let c1_i32_137 : BitVec 32 := 1#32
  ![v168.toNat, 1]
def k0_off15 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_195 : BitVec 32 := 2#32
  let c0_i32_200 : BitVec 32 := 0#32
  let c0_i32_201 : BitVec 32 := 0#32
  ![v2.toNat, 2, 0, 0]
def k0_off16 (d0 : Dev nD) (c1_i32_192 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v215 : BitVec 32 := Scalar.addi v2 c1_i32_192
  let c4_i32_193 : BitVec 32 := 4#32
  let v216 : BitVec 32 := Scalar.remsi v215 c4_i32_193
  let c2_i32_194 : BitVec 32 := 2#32
  let c0_i32_202 : BitVec 32 := 0#32
  let c0_i32_203 : BitVec 32 := 0#32
  ![v216.toNat, 2, 0, 0]
def k0_off17 (d0 : Dev nD) (c1_i32_192 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v215 : BitVec 32 := Scalar.addi v2 c1_i32_192
  let c4_i32_193 : BitVec 32 := 4#32
  let v216 : BitVec 32 := Scalar.remsi v215 c4_i32_193
  let c2_i32_206 : BitVec 32 := 2#32
  ![v216.toNat, 2]
def k0_off18 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_264 : BitVec 32 := 3#32
  let c0_i32_269 : BitVec 32 := 0#32
  let c0_i32_270 : BitVec 32 := 0#32
  ![v2.toNat, 3, 0, 0]
def k0_off19 (d0 : Dev nD) (c1_i32_261 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v263 : BitVec 32 := Scalar.addi v2 c1_i32_261
  let c4_i32_262 : BitVec 32 := 4#32
  let v264 : BitVec 32 := Scalar.remsi v263 c4_i32_262
  let c3_i32_263 : BitVec 32 := 3#32
  let c0_i32_271 : BitVec 32 := 0#32
  let c0_i32_272 : BitVec 32 := 0#32
  ![v264.toNat, 3, 0, 0]
def k0_off20 (d0 : Dev nD) (c1_i32_261 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v263 : BitVec 32 := Scalar.addi v2 c1_i32_261
  let c4_i32_262 : BitVec 32 := 4#32
  let v264 : BitVec 32 := Scalar.remsi v263 c4_i32_262
  let c3_i32_275 : BitVec 32 := 3#32
  ![v264.toNat, 3]
def k0_off21 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_333 : BitVec 32 := 4#32
  let c0_i32_338 : BitVec 32 := 0#32
  let c0_i32_339 : BitVec 32 := 0#32
  ![v2.toNat, 4, 0, 0]
def k0_off22 (d0 : Dev nD) (c1_i32_330 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v311 : BitVec 32 := Scalar.addi v2 c1_i32_330
  let c4_i32_331 : BitVec 32 := 4#32
  let v312 : BitVec 32 := Scalar.remsi v311 c4_i32_331
  let c4_i32_332 : BitVec 32 := 4#32
  let c0_i32_340 : BitVec 32 := 0#32
  let c0_i32_341 : BitVec 32 := 0#32
  ![v312.toNat, 4, 0, 0]
def k0_off23 (d0 : Dev nD) (c1_i32_330 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v311 : BitVec 32 := Scalar.addi v2 c1_i32_330
  let c4_i32_331 : BitVec 32 := 4#32
  let v312 : BitVec 32 := Scalar.remsi v311 c4_i32_331
  let c4_i32_344 : BitVec 32 := 4#32
  ![v312.toNat, 4]
def k0_off24 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c5_i32_401 : BitVec 32 := 5#32
  let c0_i32_406 : BitVec 32 := 0#32
  let c0_i32_407 : BitVec 32 := 0#32
  ![v2.toNat, 5, 0, 0]
def k0_off25 (d0 : Dev nD) (c1_i32_399 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v359 : BitVec 32 := Scalar.addi v2 c1_i32_399
  let c4_i32_400 : BitVec 32 := 4#32
  let v360 : BitVec 32 := Scalar.remsi v359 c4_i32_400
  let c5_i32 : BitVec 32 := 5#32
  let c0_i32_408 : BitVec 32 := 0#32
  let c0_i32_409 : BitVec 32 := 0#32
  ![v360.toNat, 5, 0, 0]
def k0_off26 (d0 : Dev nD) (c1_i32_399 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v359 : BitVec 32 := Scalar.addi v2 c1_i32_399
  let c4_i32_400 : BitVec 32 := 4#32
  let v360 : BitVec 32 := Scalar.remsi v359 c4_i32_400
  let c5_i32_412 : BitVec 32 := 5#32
  ![v360.toNat, 5]
def k0_off27 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c6_i32_469 : BitVec 32 := 6#32
  let c0_i32_474 : BitVec 32 := 0#32
  let c0_i32_475 : BitVec 32 := 0#32
  ![v2.toNat, 6, 0, 0]
def k0_off28 (d0 : Dev nD) (c1_i32_467 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v407 : BitVec 32 := Scalar.addi v2 c1_i32_467
  let c4_i32_468 : BitVec 32 := 4#32
  let v408 : BitVec 32 := Scalar.remsi v407 c4_i32_468
  let c6_i32 : BitVec 32 := 6#32
  let c0_i32_476 : BitVec 32 := 0#32
  let c0_i32_477 : BitVec 32 := 0#32
  ![v408.toNat, 6, 0, 0]
def k0_off29 (d0 : Dev nD) (c1_i32_467 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v407 : BitVec 32 := Scalar.addi v2 c1_i32_467
  let c4_i32_468 : BitVec 32 := 4#32
  let v408 : BitVec 32 := Scalar.remsi v407 c4_i32_468
  let c6_i32_480 : BitVec 32 := 6#32
  ![v408.toNat, 6]
def k0_off30 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c7_i32_537 : BitVec 32 := 7#32
  let c0_i32_542 : BitVec 32 := 0#32
  let c0_i32_543 : BitVec 32 := 0#32
  ![v2.toNat, 7, 0, 0]
def k0_off31 (d0 : Dev nD) (c1_i32_535 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v455 : BitVec 32 := Scalar.addi v2 c1_i32_535
  let c4_i32_536 : BitVec 32 := 4#32
  let v456 : BitVec 32 := Scalar.remsi v455 c4_i32_536
  let c7_i32 : BitVec 32 := 7#32
  let c0_i32_544 : BitVec 32 := 0#32
  let c0_i32_545 : BitVec 32 := 0#32
  ![v456.toNat, 7, 0, 0]
def k0_off32 (d0 : Dev nD) (c1_i32_535 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v455 : BitVec 32 := Scalar.addi v2 c1_i32_535
  let c4_i32_536 : BitVec 32 := 4#32
  let v456 : BitVec 32 := Scalar.remsi v455 c4_i32_536
  let c7_i32_548 : BitVec 32 := 7#32
  ![v456.toNat, 7]
def k0_off33 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_605 : BitVec 32 := 8#32
  let c0_i32_610 : BitVec 32 := 0#32
  let c0_i32_611 : BitVec 32 := 0#32
  ![v2.toNat, 8, 0, 0]
def k0_off34 (d0 : Dev nD) (c1_i32_603 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v503 : BitVec 32 := Scalar.addi v2 c1_i32_603
  let c4_i32_604 : BitVec 32 := 4#32
  let v504 : BitVec 32 := Scalar.remsi v503 c4_i32_604
  let c8_i32 : BitVec 32 := 8#32
  let c0_i32_612 : BitVec 32 := 0#32
  let c0_i32_613 : BitVec 32 := 0#32
  ![v504.toNat, 8, 0, 0]
def k0_off35 (d0 : Dev nD) (c1_i32_603 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v503 : BitVec 32 := Scalar.addi v2 c1_i32_603
  let c4_i32_604 : BitVec 32 := 4#32
  let v504 : BitVec 32 := Scalar.remsi v503 c4_i32_604
  let c8_i32_616 : BitVec 32 := 8#32
  ![v504.toNat, 8]
def k0_off36 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c9_i32_673 : BitVec 32 := 9#32
  let c0_i32_678 : BitVec 32 := 0#32
  let c0_i32_679 : BitVec 32 := 0#32
  ![v2.toNat, 9, 0, 0]
def k0_off37 (d0 : Dev nD) (c1_i32_671 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v551 : BitVec 32 := Scalar.addi v2 c1_i32_671
  let c4_i32_672 : BitVec 32 := 4#32
  let v552 : BitVec 32 := Scalar.remsi v551 c4_i32_672
  let c9_i32 : BitVec 32 := 9#32
  let c0_i32_680 : BitVec 32 := 0#32
  let c0_i32_681 : BitVec 32 := 0#32
  ![v552.toNat, 9, 0, 0]
def k0_off38 (d0 : Dev nD) (c1_i32_671 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v551 : BitVec 32 := Scalar.addi v2 c1_i32_671
  let c4_i32_672 : BitVec 32 := 4#32
  let v552 : BitVec 32 := Scalar.remsi v551 c4_i32_672
  let c9_i32_684 : BitVec 32 := 9#32
  ![v552.toNat, 9]
def k0_off39 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c10_i32_741 : BitVec 32 := 10#32
  let c0_i32_746 : BitVec 32 := 0#32
  let c0_i32_747 : BitVec 32 := 0#32
  ![v2.toNat, 10, 0, 0]
def k0_off40 (d0 : Dev nD) (c1_i32_739 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v599 : BitVec 32 := Scalar.addi v2 c1_i32_739
  let c4_i32_740 : BitVec 32 := 4#32
  let v600 : BitVec 32 := Scalar.remsi v599 c4_i32_740
  let c10_i32 : BitVec 32 := 10#32
  let c0_i32_748 : BitVec 32 := 0#32
  let c0_i32_749 : BitVec 32 := 0#32
  ![v600.toNat, 10, 0, 0]
def k0_off41 (d0 : Dev nD) (c1_i32_739 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v599 : BitVec 32 := Scalar.addi v2 c1_i32_739
  let c4_i32_740 : BitVec 32 := 4#32
  let v600 : BitVec 32 := Scalar.remsi v599 c4_i32_740
  let c10_i32_752 : BitVec 32 := 10#32
  ![v600.toNat, 10]
def k0_off42 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c11_i32_809 : BitVec 32 := 11#32
  let c0_i32_814 : BitVec 32 := 0#32
  let c0_i32_815 : BitVec 32 := 0#32
  ![v2.toNat, 11, 0, 0]
def k0_off43 (d0 : Dev nD) (c1_i32_807 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v647 : BitVec 32 := Scalar.addi v2 c1_i32_807
  let c4_i32_808 : BitVec 32 := 4#32
  let v648 : BitVec 32 := Scalar.remsi v647 c4_i32_808
  let c11_i32 : BitVec 32 := 11#32
  let c0_i32_816 : BitVec 32 := 0#32
  let c0_i32_817 : BitVec 32 := 0#32
  ![v648.toNat, 11, 0, 0]
def k0_off44 (d0 : Dev nD) (c1_i32_807 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v647 : BitVec 32 := Scalar.addi v2 c1_i32_807
  let c4_i32_808 : BitVec 32 := 4#32
  let v648 : BitVec 32 := Scalar.remsi v647 c4_i32_808
  let c11_i32_820 : BitVec 32 := 11#32
  ![v648.toNat, 11]
def k0_off45 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c12_i32_877 : BitVec 32 := 12#32
  let c0_i32_882 : BitVec 32 := 0#32
  let c0_i32_883 : BitVec 32 := 0#32
  ![v2.toNat, 12, 0, 0]
def k0_off46 (d0 : Dev nD) (c1_i32_875 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v695 : BitVec 32 := Scalar.addi v2 c1_i32_875
  let c4_i32_876 : BitVec 32 := 4#32
  let v696 : BitVec 32 := Scalar.remsi v695 c4_i32_876
  let c12_i32 : BitVec 32 := 12#32
  let c0_i32_884 : BitVec 32 := 0#32
  let c0_i32_885 : BitVec 32 := 0#32
  ![v696.toNat, 12, 0, 0]
def k0_off47 (d0 : Dev nD) (c1_i32_875 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v695 : BitVec 32 := Scalar.addi v2 c1_i32_875
  let c4_i32_876 : BitVec 32 := 4#32
  let v696 : BitVec 32 := Scalar.remsi v695 c4_i32_876
  let c12_i32_888 : BitVec 32 := 12#32
  ![v696.toNat, 12]
def k0_off48 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c13_i32_945 : BitVec 32 := 13#32
  let c0_i32_950 : BitVec 32 := 0#32
  let c0_i32_951 : BitVec 32 := 0#32
  ![v2.toNat, 13, 0, 0]
def k0_off49 (d0 : Dev nD) (c1_i32_943 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v743 : BitVec 32 := Scalar.addi v2 c1_i32_943
  let c4_i32_944 : BitVec 32 := 4#32
  let v744 : BitVec 32 := Scalar.remsi v743 c4_i32_944
  let c13_i32 : BitVec 32 := 13#32
  let c0_i32_952 : BitVec 32 := 0#32
  let c0_i32_953 : BitVec 32 := 0#32
  ![v744.toNat, 13, 0, 0]
def k0_off50 (d0 : Dev nD) (c1_i32_943 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v743 : BitVec 32 := Scalar.addi v2 c1_i32_943
  let c4_i32_944 : BitVec 32 := 4#32
  let v744 : BitVec 32 := Scalar.remsi v743 c4_i32_944
  let c13_i32_956 : BitVec 32 := 13#32
  ![v744.toNat, 13]
def k0_off51 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c14_i32_1013 : BitVec 32 := 14#32
  let c0_i32_1018 : BitVec 32 := 0#32
  let c0_i32_1019 : BitVec 32 := 0#32
  ![v2.toNat, 14, 0, 0]
def k0_off52 (d0 : Dev nD) (c1_i32_1011 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v791 : BitVec 32 := Scalar.addi v2 c1_i32_1011
  let c4_i32_1012 : BitVec 32 := 4#32
  let v792 : BitVec 32 := Scalar.remsi v791 c4_i32_1012
  let c14_i32 : BitVec 32 := 14#32
  let c0_i32_1020 : BitVec 32 := 0#32
  let c0_i32_1021 : BitVec 32 := 0#32
  ![v792.toNat, 14, 0, 0]
def k0_off53 (d0 : Dev nD) (c1_i32_1011 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v791 : BitVec 32 := Scalar.addi v2 c1_i32_1011
  let c4_i32_1012 : BitVec 32 := 4#32
  let v792 : BitVec 32 := Scalar.remsi v791 c4_i32_1012
  let c14_i32_1024 : BitVec 32 := 14#32
  ![v792.toNat, 14]
def k0_off54 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c15_i32_1082 : BitVec 32 := 15#32
  let c0_i32_1087 : BitVec 32 := 0#32
  let c0_i32_1088 : BitVec 32 := 0#32
  ![v2.toNat, 15, 0, 0]
def k0_off55 (d0 : Dev nD) (c1_i32_1079 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v839 : BitVec 32 := Scalar.addi v2 c1_i32_1079
  let c4_i32_1080 : BitVec 32 := 4#32
  let v840 : BitVec 32 := Scalar.remsi v839 c4_i32_1080
  let c15_i32_1081 : BitVec 32 := 15#32
  let c0_i32_1089 : BitVec 32 := 0#32
  let c0_i32_1090 : BitVec 32 := 0#32
  ![v840.toNat, 15, 0, 0]
def k0_off56 (d0 : Dev nD) (c1_i32_1079 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v839 : BitVec 32 := Scalar.addi v2 c1_i32_1079
  let c4_i32_1080 : BitVec 32 := 4#32
  let v840 : BitVec 32 := Scalar.remsi v839 c4_i32_1080
  let c15_i32_1093 : BitVec 32 := 15#32
  ![v840.toNat, 15]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1x1x16x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S16x1x16x64 : Shape := ⟨4, ![16, 1, 16, 64]⟩
abbrev S16x4096x16x64 : Shape := ⟨4, ![16, 4096, 16, 64]⟩
abbrev S16x16x1x4096 : Shape := ⟨4, ![16, 16, 1, 4096]⟩
abbrev S_ : Shape := ⟨0, ![]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 23
  | .vmem => 0
  | .smem => 0
  | _ => 0

abbrev bufTy : (tb : Table) → Fin (tcTables nBuf tb) → BufTy
  | .hbm, ⟨0, _⟩ => ⟨S16x1x16x64, .bf16⟩
  | .hbm, ⟨1, _⟩ => ⟨S16x4096x16x64, .bf16⟩
  | .hbm, ⟨2, _⟩ => ⟨S16x4096x16x64, .bf16⟩
  | .hbm, ⟨3, _⟩ => ⟨S16x1x16x64, .f32⟩
  | .hbm, ⟨4, _⟩ => ⟨S16x4096x16x64, .f32⟩
  | .hbm, ⟨5, _⟩ => ⟨S16x4096x16x64, .f32⟩
  | .hbm, ⟨6, _⟩ => ⟨S16x16x1x4096, .f32⟩
  | .hbm, ⟨7, _⟩ => ⟨S_, .f32⟩
  | .hbm, ⟨8, _⟩ => ⟨S16x16x1x4096, .f32⟩
  | .hbm, ⟨9, _⟩ => ⟨S16x16x1x4096, .f32⟩
  | .hbm, ⟨10, _⟩ => ⟨S_, .f32⟩
  | .hbm, ⟨11, _⟩ => ⟨S16x16x1, .f32⟩
  | .hbm, ⟨12, _⟩ => ⟨S16x16x1x1, .f32⟩
  | .hbm, ⟨13, _⟩ => ⟨S16x16x1x4096, .f32⟩
  | .hbm, ⟨14, _⟩ => ⟨S16x16x1x4096, .f32⟩
  | .hbm, ⟨15, _⟩ => ⟨S16x16x1x4096, .f32⟩
  | .hbm, ⟨16, _⟩ => ⟨S_, .f32⟩
  | .hbm, ⟨17, _⟩ => ⟨S16x16x1, .f32⟩
  | .hbm, ⟨18, _⟩ => ⟨S16x16x1x1, .f32⟩
  | .hbm, ⟨19, _⟩ => ⟨S16x16x1x4096, .f32⟩
  | .hbm, ⟨20, _⟩ => ⟨S16x16x1x4096, .f32⟩
  | .hbm, ⟨21, _⟩ => ⟨S16x16x64x1, .f32⟩
  | .hbm, ⟨22, _⟩ => ⟨S16x1x16x64, .f32⟩
  | _, _ => ⟨S16x1x16x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Proto.lean ====
/- The protocol of the talking kernel: its cells, what travels through each, and the schedule of the payments.

   Every device writes the 16 slots of its own row of the scratch (one per batch entry) and copies each to the same slot of every
   peer. A barrier at the first grid point hands each peer the row it is going to write; a send cell hands the sender its slot's
   share back; a receive cell hands the receiver the landed slot at named contents. -/
module

public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Pipeline.RegionTalk
public import Idealize.ShloMosaic.Lib.MemrefSat
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's counting algebra: up to three duties a round, one for each peer. -/
abbrev UT : Type := URounds (GSem nD τ sig) (Fin 3)
/-- Two counting algebras side by side: the pipeline's and the protocol's. -/
abbrev UU : Type := UR sig nD τ × UT

local notation "𝕄" => MT nD τ sig Unit (Elt F) ℕ UU ℕ

abbrev EP : Emb (UR sig nD τ) (MT nD τ sig Unit (Elt F) ℕ UU ℕ) := embL
abbrev ER : Emb UT (MT nD τ sig Unit (Elt F) ℕ UU ℕ) := embR

variable (m : (ℓ : Loc nD τ sig) → Buf (Elt F) ℓ)

/-! ## Peers -/

/-- The peer `s + 1` steps on around the ring of four. -/
def pk (c : Dev nD) (s : Fin 3) : Dev nD := ⟨(c.val + s.val + 1) % 4, Nat.mod_lt _ (by decide)⟩
/-- Going on `s + 1` steps and then `3 - s` is going all the way round. -/
theorem pk_rev (c : Dev nD) (s : Fin 3) : pk (pk c s) s.rev = c := by revert c s; decide
theorem pk_rev' (c : Dev nD) (s : Fin 3) : pk (pk c s.rev) s = c := by revert c s; decide
theorem pk_ne (c : Dev nD) (s : Fin 3) : pk c s ≠ c := by revert c s; decide
theorem pk_inj (c : Dev nD) : Function.Injective (pk c) := by revert c; decide

/-! ## Cells -/

/-- The send semaphore of the copy `s` of batch entry `b`. -/
def sendS (s : Fin 3) (b : Fin 16) : DmaSem sig := ⟨7 + 16 * s.val + b.val, by have := s.isLt; have := b.isLt; show _ < 119; omega⟩
/-- The receive semaphore of the copy of row `r`'s batch entry `b`. -/
def recvS (r : Fin 4) (b : Fin 16) : DmaSem sig := ⟨55 + 16 * r.val + b.val, by have := r.isLt; have := b.isLt; show _ < 119; omega⟩
/-- The barrier semaphore. -/
abbrev barS : Sem sig := (SemArray.scalar (sig.barrier 0 rfl) : Sems sig S_).sem

abbrev barCell (c : Dev nD) : GSem nD τ sig := ((c : Thread nD τ), .reg barS)
abbrev sendCell (c : Dev nD) (s : Fin 3) (b : Fin 16) : GSem nD τ sig := ((c : Thread nD τ), .dma (sendS s b))
abbrev recvCell (c : Dev nD) (r : Fin 4) (b : Fin 16) : GSem nD τ sig := ((c : Thread nD τ), .dma (recvS r b))

/-- What a semaphore is for. -/
inductive Role where
  | bar
  | send (s : Fin 3) (b : Fin 16)
  | recv (r : Fin 4) (b : Fin 16)
  | none
  deriving DecidableEq

/-- The semaphores of the protocol, read back from their numbers; the staging ones have no role. -/
def role : SemLoc sig → Role
  | .reg _ => .bar
  | .dma k =>
    if k.val < 7 then .none
    else if k.val < 55 then .send ⟨((k.val - 7) / 16) % 3, Nat.mod_lt _ (by decide)⟩ ⟨(k.val - 7) % 16, Nat.mod_lt _ (by decide)⟩
    else .recv ⟨((k.val - 55) / 16) % 4, Nat.mod_lt _ (by decide)⟩ ⟨(k.val - 55) % 16, Nat.mod_lt _ (by decide)⟩

theorem role_send (s : Fin 3) (b : Fin 16) : role (.dma (sendS s b)) = .send s b := by revert s b; decide +kernel
theorem role_recv (r : Fin 4) (b : Fin 16) : role (.dma (recvS r b)) = .recv r b := by revert r b; decide +kernel

/-- A send semaphore of the program, whatever closed offset it is sliced at. -/
theorem send_sem (s : Fin 3) (b : Fin 16) (off : Fin 2 → ℕ) (h : ∀ a, off a + S1x1.size a ≤ S3x16.size a) (e : off = ![s.val, b.val]) :
    ((cc0_scratch1.slice (Rect.unit (s := S3x16) off S1x1.size h)).squeeze S_ squeezes_S1x1_S_).sem = sendS s b := by
  subst e; revert h; revert s b; decide +kernel
theorem recv_sem (r : Fin 4) (b : Fin 16) (off : Fin 2 → ℕ) (h : ∀ a, off a + S1x1.size a ≤ S4x16.size a) (e : off = ![r.val, b.val]) :
    ((cc0_scratch2.slice (Rect.unit (s := S4x16) off S1x1.size h)).squeeze S_ squeezes_S1x1_S_).sem = recvS r b := by
  subst e; revert h; revert r b; decide +kernel

/-! ## Slots -/

abbrev gM : Memref sig .tc .vmem S4x16x16x128 .f32 := Memref.whole cc0_scratch0

theorem slot_inb (r : Fin 4) (b : Fin 16) : ∀ a, (![r.val, b.val, 0, 0] : Fin 4 → ℕ) a + S1x1x16x128.size a ≤ S4x16x16x128.size a := by
  revert r b; decide +kernel
/-- The rectangle of slot `(r, b)` of the scratch. -/
abbrev slotR (r : Fin 4) (b : Fin 16) : Rect S4x16x16x128 := Rect.unit (s := S4x16x16x128) ![r.val, b.val, 0, 0] S1x1x16x128.size (slot_inb r b)
/-- Slot `(r, b)`: what row `r`'s device publishes of batch entry `b`. -/
abbrev slotM (r : Fin 4) (b : Fin 16) : Memref sig .tc .vmem S1x1x16x128 .f32 := gM.slice (slotR r b) (fun _ => rfl)
/-- The slot as the copies address it, the two leading axes squeezed out. -/
abbrev slotQ (r : Fin 4) (b : Fin 16) : Memref sig .tc .vmem S16x128 .f32 := (slotM r b).squeeze S16x128 squeezes_S1x1x16x128_S16x128

/-- The bytes one copy moves. -/
abbrev N : ℕ := (slotQ 0 0).view.dmaCredit
theorem N_pos : 0 < N := View.dmaCredit_pos _ (by decide)

/-- The share of the source slot the copy `s` holds while in flight. -/
def shr : Fin 3 → PosShare TreeShare
  | 0 => fullShare.left
  | 1 => fullShare.right.left
  | 2 => fullShare.right.right

/-! ## What a slot holds -/

/-- The three rectangles of a slot's lanes: the unnormalised values, the maximum, the sum. -/
abbrev uR : Rect S1x1x16x128 := Rect.unit (s := S1x1x16x128) ![0, 0, 0, 0] S1x1x16x64.size (by decide)
abbrev mR : Rect S1x1x16x128 := Rect.unit (s := S1x1x16x128) ![0, 0, 0, 64] S1x1x16x1.size (by decide)
abbrev lR : Rect S1x1x16x128 := Rect.unit (s := S1x1x16x128) ![0, 0, 0, 65] S1x1x16x1.size (by decide)

/-- Point `b` of the grid. -/
abbrev pt (b : Fin 16) : Fin cfg0.grid.N := ⟨b.val, by rw [N_0]; exact b.isLt⟩

section Payload
variable (c : Dev nD) (b : Fin 16)
/-- Device `c`'s queries, keys and values of batch entry `b`, in the form the body computes with. -/
def qB : FVec F S16x64 .bf16 := k0_pay4 (iblk m c 0 (pt b))
def kB : FVec F S1024x1024 .bf16 := k0_pay5 (iblk m c 1 (pt b))
def vB : FVec F S1024x1024 .bf16 := k0_pay6 (iblk m c 2 (pt b))
abbrev io : IVec S16x1024 32 := iota .tc S16x1024 32 [0] iota_S16x1024_d0_w32
/-- The unnormalised values, the maximum and the sum of device `c`'s share of batch entry `b`. -/
def uVal : Vec F S1x1x16x64 .f32 := k0_pay14 (qB m c b) (kB m c b) (vB m c b) io k0_pay7 k0_pay8 k0_pay9 k0_pay10
def mVal : Vec F S1x1x16x1 .f32 := k0_pay15 (qB m c b) (kB m c b) io k0_pay7 k0_pay8 k0_pay9 k0_pay10
def lVal : Vec F S1x1x16x1 .f32 := k0_pay17 (k0_pay16 (qB m c b) (kB m c b) io k0_pay7 k0_pay8 k0_pay9 k0_pay10)
end Payload

/-- Slot contents `X` are what device `r` publishes of batch entry `b`. -/
def good (r : Fin 4) (b : Fin 16) (X : S1x1x16x128.Idx → Elt F .f32) : Prop :=
  (fun i => X (uR.emb i)) = uVal m r b ∧ (fun i => X (mR.emb i)) = mVal m r b ∧ (fun i => X (lR.emb i)) = lVal m r b

/-! ## The schedule -/

/-- Slot `(r, b)` of device `c` at contents not chosen. -/
def slotAny (c : Dev nD) (r : Fin 4) (b : Fin 16) : sProp 𝕄 := ownsSat (c : Thread nD τ) (slotM r b) fullShare (fun _ => True)
/-- Slot `(r, b)` of device `c`, share `q`, at what device `r` publishes. -/
def slotGood (c : Dev nD) (r : Fin 4) (b : Fin 16) (q : PosShare TreeShare) : sProp 𝕄 := ownsSat (c : Thread nD τ) (slotM r b) q (good m r b)

/-- Paid to `c`'s barrier by device `pk c d`: its slots of row `c`, and that it is at round 0 of the receive cells they land at. -/
def barPay (c : Dev nD) (d : Fin 3) : sProp 𝕄 :=
  iprop((bigSep Finset.univ fun b : Fin 16 => slotAny (pk c d) c b) ∗ (bigSep Finset.univ fun b : Fin 16 => reached ER (recvCell (pk c d) c b) 0))

def sendPay (c : Dev nD) (s : Fin 3) (b : Fin 16) : sProp 𝕄 := slotGood m c c b (shr s)
def recvPay (c : Dev nD) (r : Fin 4) (b : Fin 16) : sProp 𝕄 := slotGood m c r b fullShare

def dutiesOf (c : Dev nD) : Role → Finset (Fin 3)
  | .bar => Finset.univ
  | .send _ _ => {0}
  | .recv r _ => if r = c then ∅ else {0}
  | .none => ∅

def payOf (c : Dev nD) (d : Fin 3) : Role → sProp 𝕄
  | .bar => barPay c d
  | .send s b => sendPay m c s b
  | .recv r b => recvPay m c r b
  | .none => iprop(emp)

/-- One round: a unit from each peer at a barrier, one copy's bytes at a send cell and at a receive cell of another device's row. -/
def Rd : Rounds.Schedule (GSem nD τ sig) (Fin 3) 𝕄 where
  duties g r := if r = 0 ∧ g.1.2 = .tc then dutiesOf g.1.1 (role g.2) else ∅
  unitless _ := False
  amount g _ _ := if role g.2 = .bar then 1 else N
  payload g _ d := payOf m g.1.1 d (role g.2)
  amount_pos g _ _ _ := by
    by_cases h : role g.2 = .bar
    · rw [if_pos h]; exact Nat.one_pos
    · rw [if_neg h]; exact N_pos

instance Rd_storable (g : GSem nD τ sig) (r : ℕ) (d : Fin 3) :
    BI.Storable (upEmb : UEmb _ 𝕄) ((Rd (F := F) m).payload g r d) := by
  show BI.Storable upEmb (payOf m g.1.1 d (role g.2))
  cases role g.2 <;> (unfold payOf; first | infer_instance | (unfold barPay slotAny; infer_instance) | (unfold sendPay slotGood; infer_instance) | (unfold recvPay slotGood; infer_instance))

section Sched
variable (c : Dev nD) (s : Fin 3) (r : Fin 4) (b : Fin 16) (d : Fin 3)

theorem duties_bar : (Rd (F := F) m).duties (barCell c) 0 = Finset.univ := by dsimp only [Rd]; rw [if_pos ⟨rfl, rfl⟩]; rfl
theorem duties_send : (Rd (F := F) m).duties (sendCell c s b) 0 = {0} := by
  dsimp only [Rd]; rw [if_pos ⟨rfl, rfl⟩, role_send]; rfl
theorem duties_recv (h : r ≠ c) : (Rd (F := F) m).duties (recvCell c r b) 0 = {0} := by
  dsimp only [Rd]; rw [if_pos ⟨rfl, rfl⟩, role_recv]; exact if_neg h
theorem duties_own : (Rd (F := F) m).duties (recvCell c c b) 0 = ∅ := by
  dsimp only [Rd]; rw [if_pos ⟨rfl, rfl⟩, role_recv]; exact if_pos rfl
theorem duties_later (g : GSem nD τ sig) : ∀ r, 1 ≤ r → (Rd (F := F) m).duties g r = ∅ :=
  fun r hr => by dsimp only [Rd]; rw [if_neg (fun h => by omega)]
theorem duties_own_all : ∀ r, 0 ≤ r → (Rd (F := F) m).duties (recvCell c c b) r = ∅ := fun r _ => by
  rcases Nat.eq_zero_or_pos r with rfl | h
  · exact duties_own m c b
  · exact duties_later m _ r h

theorem amount_bar : (Rd (F := F) m).amount (barCell c) 0 d = 1 := rfl
theorem amount_send : (Rd (F := F) m).amount (sendCell c s b) 0 d = N := by dsimp only [Rd]; rw [role_send]; rfl
theorem amount_recv : (Rd (F := F) m).amount (recvCell c r b) 0 d = N := by dsimp only [Rd]; rw [role_recv]; rfl

theorem payload_bar : (Rd (F := F) m).payload (barCell c) 0 d = barPay c d := rfl
theorem payload_send : (Rd (F := F) m).payload (sendCell c s b) 0 d = sendPay m c s b := by dsimp only [Rd]; rw [role_send]; rfl
theorem payload_recv : (Rd (F := F) m).payload (recvCell c r b) 0 d = recvPay m c r b := by dsimp only [Rd]; rw [role_recv]; rfl

theorem expect_bar : (Rd (F := F) m).expect (barCell c) 0 = 3 := by
  unfold Rounds.Schedule.expect Rounds.Schedule.amountOf; rw [duties_bar]; rfl
theorem expect_send : (Rd (F := F) m).expect (sendCell c s b) 0 = N := by
  unfold Rounds.Schedule.expect Rounds.Schedule.amountOf; rw [duties_send, Finset.sum_singleton, amount_send]
theorem expect_recv (h : r ≠ c) : (Rd (F := F) m).expect (recvCell c r b) 0 = N := by
  unfold Rounds.Schedule.expect Rounds.Schedule.amountOf; rw [duties_recv m c r b h, Finset.sum_singleton, amount_recv]

theorem rest_bar : (bigSep ((Rd (F := F) m).duties (barCell c) 0 \ ∅) ((Rd (F := F) m).payload (barCell c) 0) : sProp 𝕄)
    = bigSep Finset.univ (barPay c) := by rw [Finset.sdiff_empty, duties_bar]; rfl
theorem rest_send : (bigSep ((Rd (F := F) m).duties (sendCell c s b) 0 \ ∅) ((Rd (F := F) m).payload (sendCell c s b) 0) : sProp 𝕄)
    = sendPay m c s b := by rw [Finset.sdiff_empty, duties_send, bigSep_singleton, payload_send]
theorem rest_recv (h : r ≠ c) : (bigSep ((Rd (F := F) m).duties (recvCell c r b) 0 \ ∅) ((Rd (F := F) m).payload (recvCell c r b) 0) : sProp 𝕄)
    = recvPay m c r b := by rw [Finset.sdiff_empty, duties_recv m c r b h, bigSep_singleton, payload_recv]

theorem mem_bar : d ∈ (Rd (F := F) m).duties (barCell c) 0 := by rw [duties_bar]; exact Finset.mem_univ _
theorem mem_send : (0 : Fin 3) ∈ (Rd (F := F) m).duties (sendCell c s b) 0 := by rw [duties_send]; exact Finset.mem_singleton_self _
theorem mem_recv (h : r ≠ c) : (0 : Fin 3) ∈ (Rd (F := F) m).duties (recvCell c r b) 0 := by
  rw [duties_recv m c r b h]; exact Finset.mem_singleton_self _
end Sched

/-! ## What a device owes -/

/-- The three copies of batch entry `b`, each owed at its receiver. -/
def rowOwed (c : Dev nD) (b : Fin 16) : CellTallies nD τ sig Unit := ∑ s : Fin 3, tallyAt (recvCell (pk c s) c b) () N
/-- A unit at each peer's barrier. -/
def barOwed (c : Dev nD) : CellTallies nD τ sig Unit := ∑ s : Fin 3, tallyAt (barCell (pk c s)) () 1
/-- What device `c` still owes before grid point `t`. -/
def owed (c : Dev nD) (t : ℕ) : CellTallies nD τ sig Unit :=
  (∑ b : Fin 16, if t ≤ b.val then rowOwed c b else 0) + (if t = 0 then barOwed c else 0)

/-- What remains owed after the barrier of the first point, and after the copies of the points before `t`. -/
def rows (c : Dev nD) (t : ℕ) : CellTallies nD τ sig Unit := ∑ b : Fin 16, if t ≤ b.val then rowOwed c b else 0
theorem owed_eq (c : Dev nD) (t : ℕ) : owed c t = rows c t + (if t = 0 then barOwed c else 0) := rfl
theorem rows_step (c : Dev nD) (b : Fin 16) : rows c b.val = rows c (b.val + 1) + rowOwed c b := by
  unfold rows
  rw [← Finset.add_sum_erase _ _ (Finset.mem_univ b), ← Finset.add_sum_erase (a := b) Finset.univ (fun b' : Fin 16 => if b.val + 1 ≤ b'.val then rowOwed c b' else 0) (Finset.mem_univ b),
    if_pos le_rfl, if_neg (by omega), zero_add, add_comm]
  congr 1
  refine Finset.sum_congr rfl fun b' hb' => ?_
  have : b' ≠ b := (Finset.mem_erase.1 hb').1
  have h2 : b'.val ≠ b.val := fun h => this (Fin.ext h)
  by_cases h : b.val ≤ b'.val
  · rw [if_pos h, if_pos (by omega)]
  · rw [if_neg h, if_neg (by omega)]
theorem rows_last (c : Dev nD) : rows c 16 = 0 := by
  unfold rows
  exact Finset.sum_eq_zero fun b _ => if_neg (by have := b.isLt; omega)

/-! ## Levels: staging lowest, then the barrier, then the landings -/

/-- One index everywhere on a tensor core's cells. -/
def L (g : GSem nD τ sig) : Finset Unit := if g.1.2 = .tc then {()} else ∅
def lv (g : GSem nD τ sig) (_ : Unit) : ℕ :=
  match role g.2 with
  | .bar => 1
  | .recv _ _ => 2
  | _ => 0

theorem lv_bar (c : Dev nD) : lv (barCell c) () = 1 := rfl
theorem lv_recv (c : Dev nD) (r : Fin 4) (b : Fin 16) : lv (recvCell c r b) () = 2 := by unfold lv; dsimp only; rw [role_recv]
theorem L_tc (c : Dev nD) (s : SemLoc sig) : L ((c : Thread nD τ), s) = {()} := if_pos rfl

theorem rows_pos {c : Dev nD} {t : ℕ} {g : GSem nD τ sig} {i : Unit} (h : 0 < rows c t g i) : ∃ c' r b, g = recvCell c' r b := by
  unfold rows at h
  rw [Finset.sum_apply, Finsupp.finsetSum_apply] at h
  obtain ⟨b, -, hb⟩ := Finset.exists_ne_zero_of_sum_ne_zero h.ne'
  by_cases ht : t ≤ b.val
  · rw [if_pos ht] at hb
    unfold rowOwed at hb
    rw [Finset.sum_apply, Finsupp.finsetSum_apply] at hb
    obtain ⟨s, -, hs⟩ := Finset.exists_ne_zero_of_sum_ne_zero hb
    by_contra hn
    exact hs (by rw [tallyAt_ne_cell (fun e => hn ⟨_, _, _, e⟩)]; rfl)
  · rw [if_neg ht] at hb; exact absurd rfl hb

theorem barOwed_pos {c : Dev nD} {g : GSem nD τ sig} {i : Unit} (h : 0 < barOwed c g i) : ∃ c', g = barCell c' := by
  unfold barOwed at h
  rw [Finset.sum_apply, Finsupp.finsetSum_apply] at h
  obtain ⟨s, -, hs⟩ := Finset.exists_ne_zero_of_sum_ne_zero h.ne'
  by_contra hn
  exact hs (by rw [tallyAt_ne_cell (fun e => hn ⟨_, e⟩)]; rfl)

/-- Whatever is owed is owed above the staging cells. -/
theorem owed_pos {c : Dev nD} {t : ℕ} {g : GSem nD τ sig} {i : Unit} (h : 0 < owed c t g i) : i ∈ L g ∧ 0 < lv g i := by
  have h' : rows c t g i ≠ 0 ∨ (if t = 0 then barOwed c else 0 : CellTallies nD τ sig Unit) g i ≠ 0 := by
    by_contra hn
    rw [not_or, not_not, not_not] at hn
    rw [owed_eq, Pi.add_apply, Finsupp.add_apply, hn.1, hn.2] at h
    exact absurd h (Nat.lt_irrefl _)
  rcases h' with h' | h'
  · obtain ⟨c', r, b, rfl⟩ := rows_pos (Nat.pos_of_ne_zero h')
    exact ⟨by rw [L_tc]; exact Finset.mem_singleton.2 rfl, by rw [lv_recv]; decide⟩
  · by_cases ht : t = 0
    · rw [if_pos ht] at h'
      obtain ⟨c', rfl⟩ := barOwed_pos (Nat.pos_of_ne_zero h')
      exact ⟨by rw [L_tc]; exact Finset.mem_singleton.2 rfl, by rw [lv_bar]; decide⟩
    · rw [if_neg ht] at h'; exact absurd rfl h'

end Cert.KernelIdeal.Talk
-- ==== Proof.Waits.lean ====
/- The 96 waits of the last grid point, in program order: for each batch entry and each step around the ring, the own send cell and
   then the peer's receive cell. Each closes its cell: the counter comes back at zero, beside the slot the copy handed over. -/
module

public import proofs.«01_k».proof.Proof.Proto

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## The waits, numbered -/

/-- The step around the ring and the batch entry of wait `x`: six waits a batch entry, two a step. -/
def xs (x : Fin 96) : Fin 3 := ⟨x.val / 2 % 3, Nat.mod_lt _ (by decide)⟩
def xb (x : Fin 96) : Fin 16 := ⟨x.val / 6, by have := x.isLt; omega⟩
/-- The semaphore wait `x` is on: an own send semaphore, then the receive semaphore of a peer's row. -/
def xsem (c : Dev nD) (x : Fin 96) : DmaSem sig := if x.val % 2 = 0 then sendS (xs x) (xb x) else recvS (pk c (xs x)) (xb x)
abbrev xcell (c : Dev nD) (x : Fin 96) : GSem nD τ sig := ((c : Thread nD τ), .dma (xsem c x))
/-- What comes with it: the share of the own slot that was in flight, or the peer's slot landed. -/
def xpay (c : Dev nD) (x : Fin 96) : sProp 𝕄 := if x.val % 2 = 0 then sendPay m c (xs x) (xb x) else recvPay m c (pk c (xs x)) (xb x)

theorem xexpect (c : Dev nD) (x : Fin 96) : (Rd (F := F) m).expect (xcell c x) 0 = N := by
  unfold xcell xsem
  by_cases h : x.val % 2 = 0
  · rw [if_pos h]; exact expect_send m c _ _
  · rw [if_neg h]; exact expect_recv m c _ _ (pk_ne c _)
theorem xrest (c : Dev nD) (x : Fin 96) :
    (bigSep ((Rd (F := F) m).duties (xcell c x) 0 \ ∅) (fun d => (Rd (F := F) m).payload (xcell c x) 0 d) : sProp 𝕄) = xpay m c x := by
  unfold xcell xsem xpay
  by_cases h : x.val % 2 = 0
  · rw [if_pos h, if_pos h]; exact rest_send m c _ _
  · rw [if_neg h, if_neg h]; exact rest_recv m c _ _ (pk_ne c _)

/-- Before and after wait `x`. -/
def xbefore (c : Dev nD) (x : Fin 96) : sProp 𝕄 := iprop(atPos ER (xcell c x) 0 ∅ 0 ∗ cred (tallyAt (xcell c x) () N))
def xafter (c : Dev nD) (x : Fin 96) : sProp 𝕄 := iprop(semVal (xcell c x) 0 ∗ xpay m c x)
/-- The invariants of the cells waited on. -/
def xinvs (K : GSem nD τ sig → ℕ) (c : Dev nD) : sProp 𝕄 := bigSep Finset.univ fun x : Fin 96 => (cellInv (ER (F := F)) (Rd (F := F) m) (K (xcell c x)) (xcell c x) : sProp 𝕄)
instance xinvs_persistent (K : GSem nD τ sig → ℕ) (c : Dev nD) : BI.Persistent (xinvs (F := F) m K c) := by unfold xinvs; infer_instance
theorem xinvs_at (K : GSem nD τ sig → ℕ) (c : Dev nD) (x : Fin 96) :
    xinvs (F := F) m K c ⊢ cellInv (ER (F := F)) (Rd (F := F) m) (K (xcell c x)) (xcell c x) := bigSep_elim (Finset.mem_univ x)
/-- The first `n` waits done, and nothing owed. -/
def waited (c : Dev nD) (n : ℕ) : sProp 𝕄 :=
  iprop((bigSep Finset.univ fun x : Fin 96 => if x.val < n then xafter m c x else xbefore c x) ∗ ∃ W, owes (c : Thread nD τ) (0 : CellTallies nD τ sig Unit) W)

/-! ## A run of waits -/

/-- `p` performs the waits from `n` up to `n'` and nothing else, whatever it returns. -/
def Steps (K : GSem nD τ sig → ℕ) (c : Dev nD) (n n' : ℕ) {α : Type} (p : Prog (TpuEff nD τ sig (Elt F) Λ₀ .tc) α) : Prop :=
  ∀ Q : α → sProp 𝕄, iprop(xinvs m K c ∗ waited m c n ∗ (∀ a, waited m c n' -∗ Q a))
    ⊢ wp frame (wpE (defs₀ (F := F)) 𝒱₀ c none) Set.univ p Q

variable {m} {K : GSem nD τ sig → ℕ} {c : Dev nD}

theorem Steps.ret (n : ℕ) {α : Type} (a : α) : Steps m K c n n (pure a) := fun Q => by
  show _ ⊢ wp frame _ Set.univ (Prog.ret a) Q
  rw [wp_ret]
  iintro ⟨-, Hw, Hk⟩
  imodintro
  iapply Hk
  iexact Hw

/-- Waits first, the rest of the program after them. -/
theorem Steps.seq {n n' : ℕ} {α β : Type} {p : Prog (TpuEff nD τ sig (Elt F) Λ₀ .tc) α} (hp : Steps m K c n n' p)
    (k : α → Prog (TpuEff nD τ sig (Elt F) Λ₀ .tc) β) (Q : β → sProp 𝕄) :
    iprop(xinvs m K c ∗ waited m c n ∗ (∀ a, waited m c n' -∗ wp frame (wpE (defs₀ (F := F)) 𝒱₀ c none) Set.univ (k a) Q))
      ⊢ wp frame (wpE (defs₀ (F := F)) 𝒱₀ c none) Set.univ (p >>= k) Q := by
  rw [wp_bind]
  exact hp fun a => wp frame (wpE (defs₀ (F := F)) 𝒱₀ c none) Set.univ (k a) Q

theorem Steps.bind {n n₁ n' : ℕ} {α β : Type} {p : Prog (TpuEff nD τ sig (Elt F) Λ₀ .tc) α} {k : α → Prog (TpuEff nD τ sig (Elt F) Λ₀ .tc) β}
    (hp : Steps m K c n n₁ p) (hk : ∀ a, Steps m K c n₁ n' (k a)) : Steps m K c n n' (p >>= k) := fun Q => by
  iintro ⟨#Hi, Hw, HQ⟩
  iapply (hp.seq k Q)
  isplitr; · iexact Hi
  isplitl [Hw]; · iexact Hw
  iintro %a Hw
  iapply (hk a Q)
  isplitr; · iexact Hi
  isplitl [Hw]; · iexact Hw
  iexact HQ

/-- One wait, on the semaphore of its number. -/
theorem Steps.one (x : Fin 96) {sem : DmaSem sig} (hs : sem = xsem c x) {sp sp' : Space} {e e' : EltTy} {S S' : Shape} {src : Memref sig .tc sp S e} {dst : Memref sig .tc sp' S' e'}
    {h₁ : src.view.WordExact} {h₂ : dst.view.WordExact} (hN : dst.view.dmaCredit = N) :
    Steps m K c x.val (x.val + 1) (Prog.lift (.waitDma2 sem src dst h₁ h₂)) := fun Q => by
  subst hs
  show _ ⊢ wp frame _ Set.univ (.op _ .ret) Q
  unfold waited
  have hup := bigSep_univ_update (Φ := fun y : Fin 96 => if y.val < x.val then xafter m c y else xbefore c y)
    (Ψ := fun y : Fin 96 => if y.val < x.val + 1 then xafter m c y else xbefore c y) x (fun j hj => by
      have : j.val ≠ x.val := fun h => hj (Fin.ext h)
      by_cases h : j.val < x.val
      · rw [if_pos h, if_pos (by omega)]
      · rw [if_neg h, if_neg (by omega)])
  rw [if_neg (lt_irrefl _), if_pos (Nat.lt_succ_self _)] at hup
  iintro ⟨#Hi, ⟨Hw, ⟨%W, HO⟩⟩, HQ⟩
  ihave #HI := (xinvs_at m K c x) $$ Hi
  ihave Hw := hup $$ Hw
  icases Hw with ⟨Hx, Hw⟩
  unfold xbefore
  icases Hx with ⟨Hat, Hc⟩
  iapply (Rounds.wp_wait_rest_token 𝒱₀ ER (Rd m) (c : Thread nD τ) none (κ := K (xcell c x)) (k' := N)
      (fun Kt => (wpE_waitDma2_eq (src := src) (dst := dst) 𝒱₀ (c : Thread nD τ) none Set.univ Kt).trans (by rw [hN])) (Set.mem_univ _) () (O := 0) (W := W) (R := 0) (m := 0) (T := ∅)
      ((Nat.zero_add _).trans (xexpect m c x).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (xrest m c x)) $$ Hpay
  rw [wp_ret]
  imod (Rounds.cell_close ER (Rd m) (Set.mem_univ (K (xcell c x))) id (duties_later m (xcell c x))) $$ [Hat] with Hv
  · isplitr; · iexact HI
    iexact Hat
  imodintro
  iapply HQ
  isplitl [Hw Hv Hp]
  · iapply Hw
    unfold xafter
    isplitl [Hv]; · iexact Hv
    iexact Hp
  · iexists _; iexact HO

/-- The two kinds of wait, by the number and the closed form of the semaphore's offset. -/
theorem Steps.send (n : ℕ) (hn : n < 96) (he : n % 2 = 0) (off : Fin 2 → ℕ) (h : ∀ a, off a + S1x1.size a ≤ S3x16.size a) (e : off = ![n / 2 % 3, n / 6])
    {sp sp' : Space} {et et' : EltTy} {S S' : Shape} {src : Memref sig .tc sp S et} {dst : Memref sig .tc sp' S' et'}
    {h₁ : src.view.WordExact} {h₂ : dst.view.WordExact} (hN : dst.view.dmaCredit = N) :
    Steps m K c n (n + 1) (Prog.lift (.waitDma2 ((cc0_scratch1.slice (Rect.unit (s := S3x16) off S1x1.size h)).squeeze S_ squeezes_S1x1_S_).sem src dst h₁ h₂)) :=
  Steps.one ⟨n, hn⟩ ((send_sem (xs ⟨n, hn⟩) (xb ⟨n, hn⟩) off h e).trans (if_pos he).symm) hN
theorem Steps.recv (n : ℕ) (hn : n < 96) (he : ¬ n % 2 = 0) (off : Fin 2 → ℕ) (h : ∀ a, off a + S1x1.size a ≤ S4x16.size a)
    (e : off = ![(c.val + n / 2 % 3 + 1) % 4, n / 6])
    {sp sp' : Space} {et et' : EltTy} {S S' : Shape} {src : Memref sig .tc sp S et} {dst : Memref sig .tc sp' S' et'}
    {h₁ : src.view.WordExact} {h₂ : dst.view.WordExact} (hN : dst.view.dmaCredit = N) :
    Steps m K c n (n + 1) (Prog.lift (.waitDma2 ((cc0_scratch2.slice (Rect.unit (s := S4x16) off S1x1.size h)).squeeze S_ squeezes_S1x1_S_).sem src dst h₁ h₂)) :=
  Steps.one ⟨n, hn⟩ ((recv_sem (pk c (xs ⟨n, hn⟩)) (xb ⟨n, hn⟩) off h e).trans (if_neg he).symm) hN

end Cert.KernelIdeal.Talk
-- ==== Proof.Slots.lean ====
/- What a slot holds: writing a slot's lanes, sending a slot, and reading the whole scratch back once every slot is known. -/
module

public import proofs.«01_k».proof.Proof.Waits

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Lanes of a slot -/

section Lanes
variable (r : Fin 4) (b : Fin 16) (o : ℕ) (size : Fin 4 → ℕ)
  (ib : ∀ a, (![r.val, b.val, 0, o] : Fin 4 → ℕ) a + size a ≤ S4x16x16x128.size a)
  (is : ∀ a, (![0, 0, 0, o] : Fin 4 → ℕ) a + size a ≤ S1x1x16x128.size a)

/-- Lanes of the scratch at slot `(r, b)`, and the same lanes of the slot. -/
abbrev bigL : Rect S4x16x16x128 := Rect.unit (s := S4x16x16x128) ![r.val, b.val, 0, o] size ib
abbrev smallL : Rect S1x1x16x128 := Rect.unit (s := S1x1x16x128) ![0, 0, 0, o] size is

theorem emb_lanes (j : (smallL o size is).shape.Idx) : (slotR r b).emb ((smallL o size is).emb j) = (bigL r b o size ib).emb j := by
  funext a
  refine Fin.ext ?_
  match a with
  | 0 => show r.val + 1 * (0 + 1 * (j 0).val) = r.val + 1 * (j 0).val; omega
  | 1 => show b.val + 1 * (0 + 1 * (j 1).val) = b.val + 1 * (j 1).val; omega
  | 2 => show 0 + 1 * (0 + 1 * (j 2).val) = 0 + 1 * (j 2).val; omega
  | 3 => show 0 + 1 * (o + 1 * (j 3).val) = o + 1 * (j 3).val; omega

include is in
theorem set_lanes : (bigL r b o size ib).set ⊆ (slotR r b).set := by
  intro i hi
  rw [Rect.mem_set_unit] at hi ⊢
  intro a
  have h := hi a
  have h' := is a
  match a with
  | 0 => change 0 + size 0 ≤ 1 at h'; change r.val ≤ _ ∧ _ < r.val + size 0 at h; show r.val ≤ _ ∧ _ < r.val + 1; omega
  | 1 => change 0 + size 1 ≤ 1 at h'; change b.val ≤ _ ∧ _ < b.val + size 1 at h; show b.val ≤ _ ∧ _ < b.val + 1; omega
  | 2 => change 0 + size 2 ≤ 16 at h'; change 0 ≤ _ ∧ _ < 0 + size 2 at h; show 0 ≤ _ ∧ _ < 0 + 16; omega
  | 3 => change o + size 3 ≤ 128 at h'; change o ≤ _ ∧ _ < o + size 3 at h; show 0 ≤ _ ∧ _ < 0 + 128; omega

variable (f : (gM).view.ty.Contents (Elt F)) (w : (bigL r b o size ib).shape.Idx → Elt F .f32)

theorem read_lanes (j : (smallL o size is).shape.Idx) :
    (slotM r b).view.read (Elt F) ((gM.access (bigL r b o size ib)).write (Elt F) f w Finset.univ) ((smallL o size is).emb j) = w j := by
  rw [show (slotM r b).view.read (Elt F) ((gM.access (bigL r b o size ib)).write (Elt F) f w Finset.univ) ((smallL o size is).emb j)
      = gM.view.read (Elt F) ((gM.view.slice (bigL r b o size ib)).write (Elt F) f w Finset.univ) ((slotR r b).emb ((smallL o size is).emb j)) from rfl,
    emb_lanes r b o size ib is]
  exact View.read_slice_write_emb _ _ _ (Finset.mem_univ _)

theorem read_other (y : S1x1x16x128.Idx) (hy : ¬ (o ≤ (y 3).val ∧ (y 3).val < o + size 3)) :
    (slotM r b).view.read (Elt F) ((gM.access (bigL r b o size ib)).write (Elt F) f w Finset.univ) y = (slotM r b).view.read (Elt F) f y := by
  refine View.read_slice_write_of_not_mem (v := gM.view) (bigL r b o size ib) f w Finset.univ (y := (slotR r b).emb y) ?_
  rw [Rect.map_emb_univ, Rect.mem_set_unit]
  intro h
  have h3 := h 3
  refine hy ?_
  change o ≤ 0 + 1 * (y 3).val ∧ 0 + 1 * (y 3).val < o + size 3 at h3
  omega

end Lanes

/-- The own slot's elements of device `c`. -/
abbrev slotPts (c : Dev nD) (b : Fin 16) (f : (gM).view.ty.Contents (Elt F)) : sProp 𝕄 :=
  ((slotM c b).view.loc (c : Thread nD τ) ↦[(slotM c b).view.set]{fullShare} f)

variable {m}

/-- A store into lanes of the own slot. -/
theorem store_lanes {c : Dev nD} {b : Fin 16} (o : ℕ) (size : Fin 4 → ℕ) (off : Fin 4 → ℕ) (e : off = ![c.val, b.val, 0, o])
    (inb : ∀ a, off a + size a ≤ S4x16x16x128.size a) (is : ∀ a, (![0, 0, 0, o] : Fin 4 → ℕ) a + size a ≤ S1x1x16x128.size a)
    {α : Type} (k : PUnit → Prog (TpuEff nD τ sig (Elt F) Λ₀ .tc) α) (f : (gM).view.ty.Contents (Elt F))
    (w : (Rect.unit (s := S4x16x16x128) off size inb).shape.Idx → Elt F .f32) (hx) (hm) (Q : α → sProp 𝕄) :
    iprop(slotPts c b f ∗ (∀ f', ⌜(∀ j, (slotM c b).view.read (Elt F) f' ((smallL o size is).emb j) = w j)
        ∧ ∀ y : S1x1x16x128.Idx, ¬ (o ≤ (y 3).val ∧ (y 3).val < o + size 3) → (slotM c b).view.read (Elt F) f' y = (slotM c b).view.read (Elt F) f y⌝
        -∗ slotPts c b f' -∗ wp frame (wpE (defs₀ (F := F)) 𝒱₀ c none) Set.univ (k ⟨⟩) Q))
      ⊢ wp frame (wpE (defs₀ (F := F)) 𝒱₀ c none) Set.univ
          (Prog.lift (.store gM (Rect.unit (s := S4x16x16x128) off size inb) w Finset.univ hx hm) >>= k) Q := by
  subst e
  iintro ⟨H, Hk⟩
  iapply (wp_store (defs := defs₀ (F := F)) 𝒱₀ (c : Thread nD τ) none Set.univ (m := gM) (r := bigL c b o size inb) (Mk := Finset.univ) (S := (slotM c b).view.set) (f := f) (w := w)
    (by
      rw [View.setOn_univ, View.set_slice, View.set_slice]
      exact Finset.map_subset_map.2 (set_lanes c b o size inb is))) $$ H
  iintro H
  iapply Hk $$ [] H
  ipureintro
  exact ⟨read_lanes c b o size inb is f w, read_other c b o size inb f w⟩

/-- A load of lanes of the own slot. -/
theorem load_lanes {c : Dev nD} {b : Fin 16} (o : ℕ) (size : Fin 4 → ℕ) (off : Fin 4 → ℕ) (e : off = ![c.val, b.val, 0, o])
    (inb : ∀ a, off a + size a ≤ S4x16x16x128.size a) (is : ∀ a, (![0, 0, 0, o] : Fin 4 → ℕ) a + size a ≤ S1x1x16x128.size a)
    {α : Type} (k : ((Rect.unit (s := S4x16x16x128) off size inb).toLoadRect.shape.Idx → Elt F .f32) → Prog (TpuEff nD τ sig (Elt F) Λ₀ .tc) α)
    (f : (gM).view.ty.Contents (Elt F)) (hl) (Q : α → sProp 𝕄) :
    iprop(slotPts c b f ∗ (∀ v, slotPts c b f -∗ wp frame (wpE (defs₀ (F := F)) 𝒱₀ c none) Set.univ (k v) Q))
      ⊢ wp frame (wpE (defs₀ (F := F)) 𝒱₀ c none) Set.univ
          (Prog.lift (.load gM (Rect.unit (s := S4x16x16x128) off size inb).toLoadRect hl) >>= k) Q := by
  subst e
  iintro ⟨H, Hk⟩
  iapply (wp_load (defs := defs₀ (F := F)) 𝒱₀ (c : Thread nD τ) none Set.univ (m := gM) (r := (bigL c b o size inb).toLoadRect) (S := (slotM c b).view.set) (q := fullShare) (f := f)
    (by
      rw [View.set_slice]
      exact Finset.map_subset_map.2 (set_lanes c b o size inb is))) $$ H
  iintro H
  iapply Hk $$ %_ H

variable (m) in
/-- The copy of a slot writes what was read: the slot reads alike through its two leading axes or without them. -/
theorem read_sent (r : Fin 4) (b : Fin 16) (fs fd : (gM).view.ty.Contents (Elt F)) :
    (slotM r b).view.read (Elt F) ((slotQ r b).view.write (Elt F) fd ((slotQ r b).view.read (Elt F) fs) Finset.univ) = (slotM r b).view.read (Elt F) fs := by
  funext y
  obtain ⟨x, rfl⟩ := (Shape.reshapeEquiv squeezes_S1x1x16x128_S16x128.numel_eq).surjective y
  exact View.read_write_of_mem (v := (slotQ r b).view) fd _ (Finset.mem_univ x)

variable (m) in
/-- What the copy `s` of batch entry `b` takes besides the source share: the peer's slot, the two tokens, the two marks. -/
def fuel (c : Dev nD) (s : Fin 3) (b : Fin 16) : sProp 𝕄 :=
  iprop(slotAny (pk c s) c b ∗ reached ER (recvCell (pk c s) c b) 0
    ∗ dutyTok ER (sendCell c s b) 0 0 ∗ dutyTok ER (recvCell (pk c s) c b) 0 0 ∗ reached ER (sendCell c s b) 0)

/-- One copy to a peer: the slot's share and the fuel become the credit of the send cell, and one copy less is owed. -/
theorem send_slot {K : GSem nD τ sig → ℕ} {c : Dev nD} (s : Fin 3) {b : Fin 16} {d : Dev nD} (hd : d = pk c s)
    {sS sR : DmaSem sig} (hS : sS = sendS s b) (hR : sR = recvS c b)
    (off : Fin 4 → ℕ) (e : off = ![c.val, b.val, 0, 0]) (inb inb' : ∀ a, off a + S1x1x16x128.size a ≤ S4x16x16x128.size a)
    {α : Type} (k : PUnit → Prog (TpuEff nD τ sig (Elt F) Λ₀ .tc) α) (O : CellTallies nD τ sig Unit) (W : Waits sig Unit) (Q : α → sProp 𝕄)
    {h₁ h₂} {h₃} :
    iprop(cellInv (ER (F := F)) (Rd (F := F) m) (K (sendCell c s b)) (sendCell c s b) ∗ cellInv (ER (F := F)) (Rd (F := F) m) (K (recvCell (pk c s) c b)) (recvCell (pk c s) c b)
        ∗ slotGood m c c b (shr s) ∗ fuel c s b ∗ owes (c : Thread nD τ) (O + tallyAt (recvCell (pk c s) c b) () N) W
        ∗ (cred (tallyAt (sendCell c s b) () N) -∗ owes (c : Thread nD τ) O W -∗ wp frame (wpE (defs₀ (F := F)) 𝒱₀ c none) Set.univ (k ⟨⟩) Q))
      ⊢ wp frame (wpE (defs₀ (F := F)) 𝒱₀ c none) Set.univ
          (Prog.lift (.enqueueDma (((gM.slice (Rect.unit (s := S4x16x16x128) off S1x1x16x128.size inb) (fun _ => rfl)).squeeze S16x128 squeezes_S1x1x16x128_S16x128 : Memref sig .tc .vmem S16x128 .f32))
            (.remote (Dev.tc d) ((gM.slice (Rect.unit (s := S4x16x16x128) off S1x1x16x128.size inb') (fun _ => rfl)).squeeze S16x128 squeezes_S1x1x16x128_S16x128) (.dma sS)) (.dma sR) h₁ h₂ h₃) >>= k) Q := by
  subst hd hS hR e
  iintro ⟨#HIs, #HIr, Hsrc, Hf, HO, Hk⟩
  unfold slotGood fuel slotAny ownsSat
  icases Hsrc with ⟨%fs, %hfs, Hsrc⟩
  icases Hf with ⟨⟨%fd, -, Hdst⟩, #HrR, HtS, HtR, #HrS⟩
  ihave Hsrc := (Entails.of_eq (show ((slotM c b).view.loc (c : Thread nD τ) ↦[(slotM c b).view.set]{shr s} fs : sProp 𝕄)
      = ((slotQ c b).view.loc (c : Thread nD τ) ↦[(slotQ c b).view.set]{shr s} fs) by rw [View.set_reshape])) $$ Hsrc
  ihave Hdst := (Entails.of_eq (show ((slotM c b).view.loc (pk c s : Thread nD τ) ↦[(slotM c b).view.set]{fullShare} fd : sProp 𝕄)
      = ((slotQ c b).view.loc (pk c s : Thread nD τ) ↦[(slotQ c b).view.set]{fullShare} fd) by rw [View.set_reshape])) $$ Hdst
  iapply (Rounds.wp_send_pointsTo 𝒱₀ ER (Rd (F := F) m) (c : Thread nD τ) none (c' := (pk c s : Thread nD τ)) (src := slotQ c b) (dst := slotQ c b)
      (sS := .dma (sendS s b)) (sem := .dma (recvS c b)) (q := shr s) (fs := fs) (κ₁ := K (sendCell c s b)) (κ₂ := K (recvCell (pk c s) c b))
      (r₁ := 0) (r₂ := 0) (d₁ := 0) (d₂ := 0) (fd := fd) (mem_send m c s b) (mem_recv m (pk c s) c b (pk_ne c s).symm)
      () () N rfl (amount_send m c s b 0) (amount_recv m (pk c s) c b 0) O rfl (W := W)
      (by
        rw [payload_send]; unfold sendPay slotGood ownsSat
        iintro H; iexists fs; isplitr
        · ipureintro; exact hfs
        · rw [View.set_reshape]; iexact H)
      (by
        rw [payload_recv]; unfold recvPay slotGood ownsSat
        iintro H
        iexists ((slotQ c b).view.write (Elt F) fd ((slotQ c b).view.read (Elt F) fs) Finset.univ)
        isplitr
        · ipureintro; rw [read_sent c b fs fd]; exact hfs
        · rw [View.set_reshape]; iexact H)) $$ [Hsrc Hdst HO HtS HtR]
  · isplitr; · iexact HIs
    isplitr; · iexact HIr
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hc, HO⟩
  iapply Hk $$ Hc HO

end Cert.KernelIdeal.Talk
-- ==== Proof.Point.lean ====
/- One grid point of the talking kernel: what it computes into its slot, the three copies, the barrier of the first point. -/
module

public import proofs.«01_k».proof.Proof.Slots

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : GSem nD τ sig → ℕ} {c : Dev nD} {b : Fin 16}

/-- A conjunction over three, spelled out. -/
theorem bigSep_three (Φ : Fin 3 → sProp 𝕄) : bigSep Finset.univ Φ = iprop(Φ 0 ∗ Φ 1 ∗ Φ 2) := by
  rw [BI.bigSep_univ_eq_bigSepL [0, 1, 2] (by decide) (by decide)]
  rfl

/-- A program that returns at once. -/
theorem wp_pure {α : Type} (a : α) (Q : α → sProp 𝕄) :
    wp frame (wpE (defs₀ (F := F)) 𝒱₀ c none) Set.univ (pure a : Prog (TpuEff nD τ sig (Elt F) Λ₀ .tc) α) Q = iprop(|={Set.univ}=> Q a) := wp_ret _ _ _ a Q

variable (i : grid0.Coords) (a1 : Memref sig .tc .vmem S1x1x16x64 .bf16) (h1 : a1.IsWhole) (a2 : Memref sig .tc .vmem S1x16x64x1024 .bf16) (h2 : a2.IsWhole)
  (a3 : Memref sig .tc .vmem S1x16x64x1024 .bf16) (h3 : a3.IsWhole) (a4 : Memref sig .tc .vmem S16x1x16x64 .f32) (h4 : a4.IsWhole) (h5 : gM.IsWhole)

/-- The unnormalised values and the maximum go into their lanes of the own slot. -/
theorem part36_run (hi : (i 0).val = b.val) (x v2 : BitVec 32) (v7 : FVec F S16x64 .bf16) (v10 v13 : FVec F S1024x1024 .bf16) (v15 v17 : IVec S16x1024 32) (v31 : IVec S16x1024 1) (v33 v34 : IVec S16x1024 32)
    (f : (gM).view.ty.Contents (Elt F)) (Q : FVec F S16x1 .f32 → sProp 𝕄) :
    iprop(slotPts c b f ∗ (∀ f', ⌜(fun j => (slotM c b).view.read (Elt F) f' (uR.emb j)) = k0_pay14 v7 v10 v13 v15 v17 v31 v33 v34
        ∧ (fun j => (slotM c b).view.read (Elt F) f' (mR.emb j)) = k0_pay15 v7 v10 v15 v17 v31 v33 v34⌝ -∗ slotPts c b f' -∗ Q (k0_pay16 v7 v10 v15 v17 v31 v33 v34)))
      ⊢ wp frame (wpE (defs₀ (F := F)) 𝒱₀ c none) Set.univ
          (k0_part36 (F := F) i a1 h1 a2 h2 a3 h3 a4 h4 gM h5 cc0_scratch1 cc0_scratch2 x c v2 v7 v10 v13 v15 v17 v31 v33 v34) Q := by
  rw [k0_part36_eq_skeleton]; unfold k0_part36_skel
  iintro ⟨H, HQ⟩
  iapply (load_lanes 0 S1x1x16x64.size (k0_off1 i c) ((k0_off1_eq i c).trans (by rw [hi])) (k0_off1_inb i c) (by decide) _ f)
  isplitl [H]; · iexact H
  iintro %_ H
  iapply (store_lanes 0 S1x1x16x64.size (k0_off1 i c) ((k0_off1_eq i c).trans (by rw [hi])) (k0_off1_inb i c) (by decide) _ f)
  isplitl [H]; · iexact H
  iintro %f1 %hf1 H
  iapply (load_lanes 64 S1x1x16x1.size (k0_off2 i c) ((k0_off2_eq i c).trans (by rw [hi])) (k0_off2_inb i c) (by decide) _ f1)
  isplitl [H]; · iexact H
  iintro %_ H
  iapply (store_lanes 64 S1x1x16x1.size (k0_off2 i c) ((k0_off2_eq i c).trans (by rw [hi])) (k0_off2_inb i c) (by decide) _ f1)
  isplitl [H]; · iexact H
  iintro %f2 %hf2 H
  iapply (load_lanes 65 S1x1x16x1.size (k0_off3 i c) ((k0_off3_eq i c).trans (by rw [hi])) (k0_off3_inb i c) (by decide) _ f2)
  isplitl [H]; · iexact H
  iintro %_ H
  rw [wp_pure]
  imodintro
  iapply HQ $$ [] H
  ipureintro
  refine ⟨funext fun j => (hf2.2 _ ?_).trans (hf1.1 j), funext hf2.1⟩
  have hj := (j 3).isLt
  change (j 3).val < 64 at hj
  show ¬ (64 ≤ 0 + 1 * (j 3).val ∧ _)
  omega

/-- The invariants the copies of batch entry `b` need: the own send cells' and the peers' receive cells'. -/
def rowInvs (m : (ℓ : Loc nD τ sig) → Buf (Elt F) ℓ) (K : GSem nD τ sig → ℕ) (c : Dev nD) (b : Fin 16) : sProp 𝕄 :=
  bigSep Finset.univ fun s : Fin 3 => iprop((cellInv (ER (F := F)) (Rd (F := F) m) (K (sendCell c s b)) (sendCell c s b) : sProp 𝕄)
    ∗ (cellInv (ER (F := F)) (Rd (F := F) m) (K (recvCell (pk c s) c b)) (recvCell (pk c s) c b) : sProp 𝕄))
instance rowInvs_persistent (m : (ℓ : Loc nD τ sig) → Buf (Elt F) ℓ) (K : GSem nD τ sig → ℕ) (c : Dev nD) (b : Fin 16) : BI.Persistent (rowInvs (F := F) m K c b) := by unfold rowInvs; infer_instance
theorem rowInvs_at (m : (ℓ : Loc nD τ sig) → Buf (Elt F) ℓ) (K : GSem nD τ sig → ℕ) (c : Dev nD) (b : Fin 16) (s : Fin 3) :
    rowInvs (F := F) m K c b ⊢ iprop((cellInv (ER (F := F)) (Rd (F := F) m) (K (sendCell c s b)) (sendCell c s b) : sProp 𝕄)
      ∗ (cellInv (ER (F := F)) (Rd (F := F) m) (K (recvCell (pk c s) c b)) (recvCell (pk c s) c b) : sProp 𝕄)) := bigSep_elim (Finset.mem_univ s)

theorem dev4 (c : Dev nD) : (⟨k0_dev4 c, k0_dev4_lt c⟩ : Dev nD) = pk c 0 := Fin.ext (k0_dev4_eq c)
theorem dev5 (c : Dev nD) : (⟨k0_dev5 c, k0_dev5_lt c⟩ : Dev nD) = pk c 1 := Fin.ext (k0_dev5_eq c)
theorem dev6 (c : Dev nD) : (⟨k0_dev6 c, k0_dev6_lt c⟩ : Dev nD) = pk c 2 := Fin.ext (k0_dev6_eq c)

/-- The three credits of the send cells of batch entry `b`. -/
def sent (c : Dev nD) (b : Fin 16) : sProp 𝕄 := bigSep Finset.univ fun s : Fin 3 => cred (tallyAt (sendCell c s b) () N)

/-- What of a point's copies is owed after the first two. -/
theorem rows_three (c : Dev nD) (b : Fin 16) : rows c b.val = ((rows c (b.val + 1) + tallyAt (recvCell (pk c 2) c b) () N) + tallyAt (recvCell (pk c 1) c b) () N)
    + tallyAt (recvCell (pk c 0) c b) () N := by
  rw [rows_step, rowOwed, Fin.sum_univ_three]
  ac_rfl

/-- The sum goes into its lane, and the slot is copied to two peers; what is left for the third copy stays. -/
theorem part37_run (hi : (i 0).val = b.val) (v2 : BitVec 32) (v : FVec F S16x1 .f32) (hv : k0_pay17 v = lVal m c b)
    (f : (gM).view.ty.Contents (Elt F)) (hu : (fun j => (slotM c b).view.read (Elt F) f (uR.emb j)) = uVal m c b)
    (hm : (fun j => (slotM c b).view.read (Elt F) f (mR.emb j)) = mVal m c b) (W : Waits sig Unit) (Q : PUnit → sProp 𝕄) :
    iprop(rowInvs m K c b ∗ slotPts c b f ∗ (bigSep Finset.univ fun s : Fin 3 => fuel c s b) ∗ owes (c : Thread nD τ) (rows c b.val) W
        ∗ (cred (tallyAt (sendCell c 0 b) () N) -∗ cred (tallyAt (sendCell c 1 b) () N) -∗ slotGood m c c b (shr 2) -∗ fuel c 2 b
          -∗ owes (c : Thread nD τ) (rows c (b.val + 1) + tallyAt (recvCell (pk c 2) c b) () N) W -∗ Q ⟨⟩))
      ⊢ wp frame (wpE (defs₀ (F := F)) 𝒱₀ c none) Set.univ
          (k0_part37 (F := F) i a1 h1 a2 h2 a3 h3 a4 h4 gM h5 cc0_scratch1 cc0_scratch2 c v2 v) Q := by
  rw [k0_part37_eq_skeleton]; unfold k0_part37_skel
  rw [bigSep_three, rows_three]
  unfold rowInvs
  rw [bigSep_three]
  iintro ⟨⟨⟨#HIs0, #HIr0⟩, ⟨#HIs1, #HIr1⟩, -⟩, H, ⟨Hf0, Hf1, Hf2⟩, HO, HQ⟩
  iapply (store_lanes 65 S1x1x16x1.size (k0_off3 i c) ((k0_off3_eq i c).trans (by rw [hi])) (k0_off3_inb i c) (by decide) _ f)
  isplitl [H]; · iexact H
  iintro %f1 %hf1 H
  have hg : good m c b ((slotM c b).view.read (Elt F) f1) := by
    refine ⟨(funext fun j => hf1.2 _ ?_).trans hu, (funext fun j => hf1.2 _ ?_).trans hm, (funext hf1.1).trans hv⟩
    · have hj := (j 3).isLt
      change (j 3).val < 64 at hj
      show ¬ (65 ≤ 0 + 1 * (j 3).val ∧ _)
      omega
    · have hj := (j 3).isLt
      change (j 3).val < 1 at hj
      show ¬ (65 ≤ 64 + 1 * (j 3).val ∧ _)
      omega
  ihave Hg := (ownsSat_of (c : Thread nD τ) (slotM c b) fullShare (Φ := good m c b) hg) $$ H
  ihave Hg := (ownsSat_thirds (c : Thread nD τ) (slotM c b) fullShare (good m c b)).1 $$ Hg
  icases Hg with ⟨Hg0, Hg1, Hg2⟩
  iapply (send_slot (m := m) (K := K) 0 (dev4 c) (send_sem 0 b (k0_off4 i) (k0_off4_inb i) ((k0_off4_eq i).trans (by rw [hi]; rfl)))
    (recv_sem c b (k0_off5 i c) (k0_off5_inb i c) ((k0_off5_eq i c).trans (by rw [hi]))) (k0_off6 i c) ((k0_off6_eq i c).trans (by rw [hi])) (k0_off6_inb i c) (k0_off6_inb i c))
  isplitr; · iexact HIs0
  isplitr; · iexact HIr0
  isplitl [Hg0]; · unfold slotGood; iexact Hg0
  isplitl [Hf0]; · iexact Hf0
  isplitl [HO]; · iexact HO
  iintro Hc0 HO
  iapply (send_slot (m := m) (K := K) 1 (dev5 c) (send_sem 1 b (k0_off7 i) (k0_off7_inb i) ((k0_off7_eq i).trans (by rw [hi]; rfl)))
    (recv_sem c b (k0_off5 i c) (k0_off5_inb i c) ((k0_off5_eq i c).trans (by rw [hi]))) (k0_off6 i c) ((k0_off6_eq i c).trans (by rw [hi])) (k0_off6_inb i c) (k0_off6_inb i c))
  isplitr; · iexact HIs1
  isplitr; · iexact HIr1
  isplitl [Hg1]; · unfold slotGood; iexact Hg1
  isplitl [Hf1]; · iexact Hf1
  isplitl [HO]; · iexact HO
  iintro Hc1 HO
  rw [wp_pure]
  imodintro
  iapply HQ $$ Hc0 Hc1 [Hg2] Hf2 HO
  unfold slotGood; iexact Hg2

/-- One point's own work, after its loads: the slot written and sent three times. -/
theorem middle_run (hi : (i 0).val = b.val) (x v2 : BitVec 32) (W : Waits sig Unit) {α : Type} (k : PUnit → Prog (TpuEff nD τ sig (Elt F) Λ₀ .tc) α) (Q : α → sProp 𝕄) {h₁ h₂ h₃} :
    iprop(rowInvs m K c b ∗ slotAny c c b ∗ (bigSep Finset.univ fun s : Fin 3 => fuel c s b) ∗ owes (c : Thread nD τ) (rows c b.val) W
        ∗ (sent c b -∗ owes (c : Thread nD τ) (rows c (b.val + 1)) W -∗ wp frame (wpE (defs₀ (F := F)) 𝒱₀ c none) Set.univ (k ⟨⟩) Q))
      ⊢ wp frame (wpE (defs₀ (F := F)) 𝒱₀ c none) Set.univ
          (k0_part36 (F := F) i a1 h1 a2 h2 a3 h3 a4 h4 gM h5 cc0_scratch1 cc0_scratch2 x c v2 (qB m c b) (kB m c b) (vB m c b) io k0_pay7 k0_pay8 k0_pay9 k0_pay10
            >>= fun v74 => k0_part37 (F := F) i a1 h1 a2 h2 a3 h3 a4 h4 gM h5 cc0_scratch1 cc0_scratch2 c v2 v74
            >>= fun _ => Prog.lift (.enqueueDma ((gM.slice (Rect.unit (s := S4x16x16x128) (k0_off6 i c) S1x1x16x128.size (k0_off6_inb i c)) (fun _ => rfl)).squeeze S16x128 squeezes_S1x1x16x128_S16x128)
              (.remote (Dev.tc (⟨k0_dev6 c, k0_dev6_lt c⟩ : Dev nD)) ((gM.slice (Rect.unit (s := S4x16x16x128) (k0_off6 i c) S1x1x16x128.size (k0_off6_inb i c)) (fun _ => rfl)).squeeze S16x128 squeezes_S1x1x16x128_S16x128)
                (.dma ((cc0_scratch1.slice (Rect.unit (s := S3x16) (k0_off8 i) S1x1.size (k0_off8_inb i))).squeeze S_ squeezes_S1x1_S_).sem))
              (.dma ((cc0_scratch2.slice (Rect.unit (s := S4x16) (k0_off5 i c) S1x1.size (k0_off5_inb i c))).squeeze S_ squeezes_S1x1_S_).sem) h₁ h₂ h₃) >>= k) Q := by
  iintro ⟨#HI, Hs, Hf, HO, Hk⟩
  unfold slotAny ownsSat
  icases Hs with ⟨%f, -, Hs⟩
  rw [wp_bind]
  iapply (part36_run (c := c) (b := b) i a1 h1 a2 h2 a3 h3 a4 h4 h5 hi x v2 _ _ _ _ _ _ _ _ f)
  isplitl [Hs]; · iexact Hs
  iintro %f' %hf Hs
  rw [wp_bind]
  iapply (part37_run (m := m) (K := K) (c := c) (b := b) i a1 h1 a2 h2 a3 h3 a4 h4 h5 hi v2 _ rfl f' hf.1 hf.2 W)
  isplitr; · iexact HI
  isplitl [Hs]; · iexact Hs
  isplitl [Hf]; · iexact Hf
  isplitl [HO]; · iexact HO
  iintro Hc0 Hc1 Hg Hf HO
  ihave #HI2 := (rowInvs_at m K c b 2) $$ HI
  icases HI2 with ⟨#HIs, #HIr⟩
  iapply (send_slot (m := m) (K := K) 2 (dev6 c) (send_sem 2 b (k0_off8 i) (k0_off8_inb i) ((k0_off8_eq i).trans (by rw [hi]; rfl)))
    (recv_sem c b (k0_off5 i c) (k0_off5_inb i c) ((k0_off5_eq i c).trans (by rw [hi]))) (k0_off6 i c) ((k0_off6_eq i c).trans (by rw [hi])) (k0_off6_inb i c) (k0_off6_inb i c))
  isplitr; · iexact HIs
  isplitr; · iexact HIr
  isplitl [Hg]; · iexact Hg
  isplitl [Hf]; · iexact Hf
  isplitl [HO]; · iexact HO
  iintro Hc2 HO
  iapply Hk $$ [Hc0 Hc1 Hc2] HO
  unfold sent
  rw [bigSep_three]
  isplitl [Hc0]; · iexact Hc0
  isplitl [Hc1]; · iexact Hc1
  iexact Hc2

/-! ## A staged block, loaded or replaced whole -/

section Stage
variable {S : Shape} {e : EltTy} (a : Memref sig .tc .vmem S e) (off : Fin S.rank → ℕ) (h0 : ∀ d, off d = 0) (inb : ∀ d, off d + S.size d ≤ S.size d)

include h0
theorem emb_zero (y : S.Idx) : (Rect.unit (s := S) off S.size inb).emb y = y := by
  funext d
  refine Fin.ext ?_
  show off d + 1 * (y d).val = (y d).val
  rw [h0 d]; omega

theorem load_stage (X : S.Idx → Elt F e) {α : Type} (k : (S.Idx → Elt F e) → Prog (TpuEff nD τ sig (Elt F) Λ₀ .tc) α) (hl) (Q : α → sProp 𝕄) :
    iprop(owns (c : Thread nD τ) a fullShare X ∗ (owns (c : Thread nD τ) a fullShare X -∗ wp frame (wpE (defs₀ (F := F)) 𝒱₀ c none) Set.univ (k X) Q))
      ⊢ wp frame (wpE (defs₀ (F := F)) 𝒱₀ c none) Set.univ (Prog.lift (.load a (Rect.unit (s := S) off S.size inb).toLoadRect hl) >>= k) Q := by
  unfold owns
  iintro ⟨⟨%f, %hf, H⟩, Hk⟩
  iapply (wp_load (defs := defs₀ (F := F)) 𝒱₀ (c : Thread nD τ) none Set.univ (m := a) (r := (Rect.unit (s := S) off S.size inb).toLoadRect) (S := a.view.set) (q := fullShare) (f := f)
    (View.setOn_subset_set _ _)) $$ H
  iintro H
  have hX : a.view.readAt (Elt F) (Rect.unit (s := S) off S.size inb).toLoadRect f = X := by
    rw [← hf]; funext y
    show a.view.read (Elt F) f ((Rect.unit (s := S) off S.size inb).emb y) = _
    rw [emb_zero off h0 inb y]
  rw [hX]
  iapply Hk
  iexists f
  isplitr; · ipureintro; exact hf
  iexact H

theorem store_stage (X w : S.Idx → Elt F e) {α : Type} (k : PUnit → Prog (TpuEff nD τ sig (Elt F) Λ₀ .tc) α) (hx) (hm) (Q : α → sProp 𝕄) :
    iprop(owns (c : Thread nD τ) a fullShare X ∗ (owns (c : Thread nD τ) a fullShare w -∗ wp frame (wpE (defs₀ (F := F)) 𝒱₀ c none) Set.univ (k ⟨⟩) Q))
      ⊢ wp frame (wpE (defs₀ (F := F)) 𝒱₀ c none) Set.univ (Prog.lift (.store a (Rect.unit (s := S) off S.size inb) w Finset.univ hx hm) >>= k) Q := by
  unfold owns
  iintro ⟨⟨%f, -, H⟩, Hk⟩
  iapply (wp_store (defs := defs₀ (F := F)) 𝒱₀ (c : Thread nD τ) none Set.univ (m := a) (r := Rect.unit (s := S) off S.size inb) (Mk := Finset.univ) (S := a.view.set) (f := f) (w := w)
    (by rw [View.setOn_univ]; exact View.set_slice_subset _ _)) $$ H
  iintro H
  iapply Hk
  iexists _
  isplitr
  · ipureintro
    funext y
    have h := View.read_slice_write_emb (Val := Elt F) (v := a.view) (Rect.unit (s := S) off S.size inb) f w (x := y) (Finset.mem_univ y)
    rw [emb_zero off h0 inb y] at h
    exact h
  iexact H
end Stage

/-! ## The barrier of the first point -/

theorem mayWait_bar (c : Dev nD) : (levAts L lv : sProp 𝕄) ⊢ MayWait (c : Thread nD τ) (.reg barS) () (rows c 0) :=
  MayOwe.of_cut (L := L) (lev := lv) 1 (fun p hp => by rw [Finset.mem_singleton.mp hp, L_tc]; exact Finset.mem_singleton_self _)
    (fun g u hg => by obtain ⟨c', r, b, rfl⟩ := rows_pos hg; rw [L_tc]; exact Finset.mem_singleton.2 rfl)
    (fun p hp => by rw [Finset.mem_singleton.mp hp]; exact le_of_eq (lv_bar c))
    (fun g u hg => by obtain ⟨c', r, b, rfl⟩ := rows_pos hg; rw [lv_recv]; decide)

/-- The invariants of the barrier cells a device touches: its own and its peers'. -/
def barInvs (m : (ℓ : Loc nD τ sig) → Buf (Elt F) ℓ) (K : GSem nD τ sig → ℕ) (c : Dev nD) : sProp 𝕄 :=
  iprop((cellInv (ER (F := F)) (Rd (F := F) m) (K (barCell c)) (barCell c) : sProp 𝕄)
    ∗ bigSep Finset.univ fun s : Fin 3 => (cellInv (ER (F := F)) (Rd (F := F) m) (K (barCell (pk c s))) (barCell (pk c s)) : sProp 𝕄))
instance barInvs_persistent (m : (ℓ : Loc nD τ sig) → Buf (Elt F) ℓ) (K : GSem nD τ sig → ℕ) (c : Dev nD) : BI.Persistent (barInvs (F := F) m K c) := by unfold barInvs; infer_instance
theorem barInvs_own (m : (ℓ : Loc nD τ sig) → Buf (Elt F) ℓ) (K : GSem nD τ sig → ℕ) (c : Dev nD) :
    barInvs (F := F) m K c ⊢ (cellInv (ER (F := F)) (Rd (F := F) m) (K (barCell c)) (barCell c) : sProp 𝕄) := by
  unfold barInvs; iintro ⟨H, -⟩; iexact H
theorem barInvs_peer (m : (ℓ : Loc nD τ sig) → Buf (Elt F) ℓ) (K : GSem nD τ sig → ℕ) (c : Dev nD) (s : Fin 3) :
    barInvs (F := F) m K c ⊢ (cellInv (ER (F := F)) (Rd (F := F) m) (K (barCell (pk c s))) (barCell (pk c s)) : sProp 𝕄) := by
  unfold barInvs
  iintro ⟨-, H⟩
  iapply (show (bigSep Finset.univ fun s : Fin 3 => (cellInv (ER (F := F)) (Rd (F := F) m) (K (barCell (pk c s))) (barCell (pk c s)) : sProp 𝕄))
    ⊢ (cellInv (ER (F := F)) (Rd (F := F) m) (K (barCell (pk c s))) (barCell (pk c s)) : sProp 𝕄) from bigSep_elim (Finset.mem_univ s))
  iexact H

/-- What the signal to peer `s` takes: the payment to its barrier, the duty's token and the round's mark. -/
def hail (c : Dev nD) (s : Fin 3) : sProp 𝕄 :=
  iprop(barPay (pk c s) s.rev ∗ dutyTok ER (barCell (pk c s)) 0 s.rev ∗ reached ER (barCell (pk c s)) 0)

theorem signal_one (s : Fin 3) {d : Dev nD} (hd : d = pk c s) (O : CellTallies nD τ sig Unit) (W : Waits sig Unit)
    {α : Type} (k : PUnit → Prog (TpuEff nD τ sig (Elt F) Λ₀ .tc) α) (Q : α → sProp 𝕄) :
    iprop(barInvs m K c ∗ hail c s ∗ owes (c : Thread nD τ) (O + tallyAt (barCell (pk c s)) () 1) W
        ∗ (owes (c : Thread nD τ) O W -∗ wp frame (wpE (defs₀ (F := F)) 𝒱₀ c none) Set.univ (k ⟨⟩) Q))
      ⊢ wp frame (wpE (defs₀ (F := F)) 𝒱₀ c none) Set.univ (semSignalWord d barS 1#32 >>= k) Q := by
  subst hd
  rw [show (semSignalWord (pk c s) barS 1#32 : Prog (TpuEff nD τ sig (Elt F) Λ₀ .tc) PUnit) = Prog.lift (.semSignal (pk c s : Thread nD τ) barS ((1 : ℕ) : ℤ)) from rfl]
  unfold hail
  iintro ⟨#HI, ⟨Hp, Ht, #Hr⟩, HO, Hk⟩
  ihave #HIs := (barInvs_peer m K c s) $$ HI
  iapply (Rounds.wp_signal 𝒱₀ ER (Rd m) (c : Thread nD τ) none (dst := (pk c s : Thread nD τ)) (sem := barS) (r := 0) (d := s.rev) (κ := K (barCell (pk c s)))
      (mem_bar m (pk c s) s.rev) (amount_bar m (pk c s) s.rev) () O rfl) $$ [HO Hp Ht]
  · isplitr; · iexact HIs
    isplitl [HO]; · iexact HO
    isplitl [Ht]; · iexact Ht
    isplitl [Hp]; · rw [payload_bar]; iexact Hp
    iexact Hr
  iexact Hk

theorem wait_bar (W : Waits sig Unit) {α : Type} (k : PUnit → Prog (TpuEff nD τ sig (Elt F) Λ₀ .tc) α) (Q : α → sProp 𝕄) :
    iprop(barInvs m K c ∗ levAts L lv ∗ atPos ER (barCell c) 0 ∅ 0 ∗ cred (tallyAt (barCell c) () 3) ∗ owes (c : Thread nD τ) (rows c 0) W
        ∗ (semVal (barCell c) 0 -∗ bigSep Finset.univ (barPay c) -∗ (∃ W, owes (c : Thread nD τ) (rows c 0) W)
          -∗ wp frame (wpE (defs₀ (F := F)) 𝒱₀ c none) Set.univ (k ⟨⟩) Q))
      ⊢ wp frame (wpE (defs₀ (F := F)) 𝒱₀ c none) Set.univ (semWaitWord barS 3#32 >>= k) Q := by
  rw [show (semWaitWord barS 3#32 : Prog (TpuEff nD τ sig (Elt F) Λ₀ .tc) PUnit) = Prog.lift (.semWait barS ((3 : ℕ) : ℤ)) from rfl, wp_bind]
  show _ ⊢ wp frame _ Set.univ (.op _ .ret) _
  iintro ⟨#HI, #Hlev, Hat, Hc, HO, Hk⟩
  ihave #HIo := (barInvs_own m K c) $$ HI
  iapply (Rounds.wp_wait_rest_token 𝒱₀ ER (Rd m) (c : Thread nD τ) none (κ := K (barCell c)) (k' := 3)
      (wpE_semWait_eq 𝒱₀ (c : Thread nD τ) none Set.univ) (Set.mem_univ _) () (O := rows c 0) (W := W) (R := 0) (m := 0) (T := ∅)
      ((Nat.zero_add _).trans (expect_bar m c).symm)) $$ [Hc HO Hat]
  · isplitr; · iexact HIo
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  rw [wp_ret]
  imod (Rounds.cell_close ER (Rd m) (Set.mem_univ (K (barCell c))) id (duties_later m (barCell c))) $$ [Hat] with Hv
  · isplitr; · iexact HIo
    iexact Hat
  imodintro
  iapply Hk $$ Hv Hp [HO]
  iexists _; iexact HO

theorem dev1 (i : grid0.Coords) (h : k0_cond1 i = 1#1) (c : Dev nD) : (⟨k0_dev1 c, k0_dev1_lt i c h⟩ : Dev nD) = pk c 0 := Fin.ext (k0_dev1_eq c)
theorem dev2 (i : grid0.Coords) (h : k0_cond1 i = 1#1) (c : Dev nD) : (⟨k0_dev2 c, k0_dev2_lt i c h⟩ : Dev nD) = pk c 1 := Fin.ext (k0_dev2_eq c)
theorem dev3 (i : grid0.Coords) (h : k0_cond1 i = 1#1) (c : Dev nD) : (⟨k0_dev3 c, k0_dev3_lt i c h⟩ : Dev nD) = pk c 2 := Fin.ext (k0_dev3_eq c)

/-- Before the barrier: everything owed, the rows to hand over, the credit of the own cell. -/
def barIn (c : Dev nD) : sProp 𝕄 :=
  iprop((bigSep Finset.univ fun s : Fin 3 => hail c s) ∗ atPos ER (barCell c) 0 ∅ 0 ∗ cred (tallyAt (barCell c) () 3)
    ∗ ∃ W, owes (c : Thread nD τ) (rows c 0 + barOwed c) W)
/-- After it: the peers' rows, the own cell closed. -/
def barOut (c : Dev nD) : sProp 𝕄 :=
  iprop(semVal (barCell c) 0 ∗ bigSep Finset.univ (barPay c) ∗ ∃ W, owes (c : Thread nD τ) (rows c 0) W)

theorem barOwed_three (c : Dev nD) : rows c 0 + barOwed c = ((rows c 0 + tallyAt (barCell (pk c 2)) () 1) + tallyAt (barCell (pk c 1)) () 1) + tallyAt (barCell (pk c 0)) () 1 := by
  rw [barOwed, Fin.sum_univ_three]
  ac_rfl

/-- The four operations of the barrier. -/
theorem barrier_run (h : k0_cond1 i = 1#1) {α : Type} (k : PUnit → Prog (TpuEff nD τ sig (Elt F) Λ₀ .tc) α) (Q : α → sProp 𝕄) :
    iprop(barInvs m K c ∗ levAts L lv ∗ barIn c ∗ (barOut c -∗ wp frame (wpE (defs₀ (F := F)) 𝒱₀ c none) Set.univ (k ⟨⟩) Q))
      ⊢ wp frame (wpE (defs₀ (F := F)) 𝒱₀ c none) Set.univ
          (semSignalWord (⟨k0_dev1 c, k0_dev1_lt i c h⟩ : Dev nD) barS 1#32 >>= fun _ => semSignalWord (⟨k0_dev2 c, k0_dev2_lt i c h⟩ : Dev nD) barS 1#32
            >>= fun _ => semSignalWord (⟨k0_dev3 c, k0_dev3_lt i c h⟩ : Dev nD) barS 1#32 >>= fun _ => semWaitWord barS 3#32 >>= k) Q := by
  unfold barIn barOut
  rw [bigSep_three, barOwed_three]
  iintro ⟨#HI, #Hlev, ⟨⟨H0, H1, H2⟩, Hat, Hc, ⟨%W, HO⟩⟩, Hk⟩
  iapply (signal_one (m := m) (K := K) 0 (dev1 i h c) _ W)
  isplitr; · iexact HI
  isplitl [H0]; · iexact H0
  isplitl [HO]; · iexact HO
  iintro HO
  iapply (signal_one (m := m) (K := K) 1 (dev2 i h c) _ W)
  isplitr; · iexact HI
  isplitl [H1]; · iexact H1
  isplitl [HO]; · iexact HO
  iintro HO
  iapply (signal_one (m := m) (K := K) 2 (dev3 i h c) _ W)
  isplitr; · iexact HI
  isplitl [H2]; · iexact H2
  isplitl [HO]; · iexact HO
  iintro HO
  iapply (wait_bar (m := m) (K := K) (c := c) W)
  isplitr; · iexact HI
  isplitr; · iexact Hlev
  isplitl [Hat]; · iexact Hat
  isplitl [Hc]; · iexact Hc
  isplitl [HO]; · iexact HO
  iintro Hv Hp HO
  iapply Hk
  isplitl [Hv]; · iexact Hv
  isplitl [Hp]; · iexact Hp
  iexact HO

end Cert.KernelIdeal.Talk
-- ==== Proof.Parts.lean ====
/- The parts of the last point's program that only wait, each from its first wait to its last. -/
module

public import proofs.«01_k».proof.Proof.Waits

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {K : GSem nD τ sig → ℕ} {c : Dev nD}
variable (i : grid0.Coords) (a1 : Memref sig .tc .vmem S1x1x16x64 .bf16) (h1 : a1.IsWhole) (a2 : Memref sig .tc .vmem S1x16x64x1024 .bf16) (h2 : a2.IsWhole)
  (a3 : Memref sig .tc .vmem S1x16x64x1024 .bf16) (h3 : a3.IsWhole) (a4 : Memref sig .tc .vmem S16x1x16x64 .f32) (h4 : a4.IsWhole) (h5 : gM.IsWhole)
  (v w x : BitVec 32) (hc : k0_cond2 i = 1#1)

theorem part1_waits : Steps m K c 0 2 (k0_part1 (F := F) i a1 h1 a2 h2 a3 h3 a4 h4 gM h5 cc0_scratch1 cc0_scratch2 c v hc) := by
  rw [k0_part1_eq_skeleton]; unfold k0_part1_skel
  refine .bind (.send _ (by decide) (by decide) _ _ rfl (by rfl)) fun _ => ?_
  refine .bind (.recv _ (by decide) (by decide) _ _ ClosedOff.eq (by rfl)) fun _ => ?_
  exact .ret _ _
theorem part2_waits : Steps m K c 2 5 (k0_part2 (F := F) i a1 h1 a2 h2 a3 h3 a4 h4 gM h5 cc0_scratch1 cc0_scratch2 c v hc w) := by
  rw [k0_part2_eq_skeleton]; unfold k0_part2_skel
  refine .bind (.send _ (by decide) (by decide) _ _ rfl (by rfl)) fun _ => ?_
  refine .bind (.recv _ (by decide) (by decide) _ _ ClosedOff.eq (by rfl)) fun _ => ?_
  refine .bind (.send _ (by decide) (by decide) _ _ rfl (by rfl)) fun _ => ?_
  exact .ret _ _
theorem part3_waits : Steps m K c 5 8 (k0_part3 (F := F) i a1 h1 a2 h2 a3 h3 a4 h4 gM h5 cc0_scratch1 cc0_scratch2 c v hc) := by
  rw [k0_part3_eq_skeleton]; unfold k0_part3_skel
  refine .bind (.recv _ (by decide) (by decide) _ _ ClosedOff.eq (by rfl)) fun _ => ?_
  refine .bind (.send _ (by decide) (by decide) _ _ rfl (by rfl)) fun _ => ?_
  refine .bind (.recv _ (by decide) (by decide) _ _ ClosedOff.eq (by rfl)) fun _ => ?_
  exact .ret _ _
theorem part4_waits : Steps m K c 8 11 (k0_part4 (F := F) i a1 h1 a2 h2 a3 h3 a4 h4 gM h5 cc0_scratch1 cc0_scratch2 c v hc w) := by
  rw [k0_part4_eq_skeleton]; unfold k0_part4_skel
  refine .bind (.send _ (by decide) (by decide) _ _ rfl (by rfl)) fun _ => ?_
  refine .bind (.recv _ (by decide) (by decide) _ _ ClosedOff.eq (by rfl)) fun _ => ?_
  refine .bind (.send _ (by decide) (by decide) _ _ rfl (by rfl)) fun _ => ?_
  exact .ret _ _
theorem part5_waits : Steps m K c 11 14 (k0_part5 (F := F) i a1 h1 a2 h2 a3 h3 a4 h4 gM h5 cc0_scratch1 cc0_scratch2 c v hc) := by
  rw [k0_part5_eq_skeleton]; unfold k0_part5_skel
  refine .bind (.recv _ (by decide) (by decide) _ _ ClosedOff.eq (by rfl)) fun _ => ?_
  refine .bind (.send _ (by decide) (by decide) _ _ rfl (by rfl)) fun _ => ?_
  refine .bind (.recv _ (by decide) (by decide) _ _ ClosedOff.eq (by rfl)) fun _ => ?_
  exact .ret _ _
theorem part6_waits : Steps m K c 14 17 (k0_part6 (F := F) i a1 h1 a2 h2 a3 h3 a4 h4 gM h5 cc0_scratch1 cc0_scratch2 c v hc w) := by
  rw [k0_part6_eq_skeleton]; unfold k0_part6_skel
  refine .bind (.send _ (by decide) (by decide) _ _ rfl (by rfl)) fun _ => ?_
  refine .bind (.recv _ (by decide) (by decide) _ _ ClosedOff.eq (by rfl)) fun _ => ?_
  refine .bind (.send _ (by decide) (by decide) _ _ rfl (by rfl)) fun _ => ?_
  exact .ret _ _
theorem part7_waits : Steps m K c 17 20 (k0_part7 (F := F) i a1 h1 a2 h2 a3 h3 a4 h4 gM h5 cc0_scratch1 cc0_scratch2 c v hc) := by
  rw [k0_part7_eq_skeleton]; unfold k0_part7_skel
  refine .bind (.recv _ (by decide) (by decide) _ _ ClosedOff.eq (by rfl)) fun _ => ?_
  refine .bind (.send _ (by decide) (by decide) _ _ rfl (by rfl)) fun _ => ?_
  refine .bind (.recv _ (by decide) (by decide) _ _ ClosedOff.eq (by rfl)) fun _ => ?_
  exact .ret _ _
theorem part8_waits : Steps m K c 20 23 (k0_part8 (F := F) i a1 h1 a2 h2 a3 h3 a4 h4 gM h5 cc0_scratch1 cc0_scratch2 c v hc w) := by
  rw [k0_part8_eq_skeleton]; unfold k0_part8_skel
  refine .bind (.send _ (by decide) (by decide) _ _ rfl (by rfl)) fun _ => ?_
  refine .bind (.recv _ (by decide) (by decide) _ _ ClosedOff.eq (by rfl)) fun _ => ?_
  refine .bind (.send _ (by decide) (by decide) _ _ rfl (by rfl)) fun _ => ?_
  exact .ret _ _
theorem part9_waits : Steps m K c 23 26 (k0_part9 (F := F) i a1 h1 a2 h2 a3 h3 a4 h4 gM h5 cc0_scratch1 cc0_scratch2 c v hc w x) := by
  rw [k0_part9_eq_skeleton]; unfold k0_part9_skel
  refine .bind (.recv _ (by decide) (by decide) _ _ ClosedOff.eq (by rfl)) fun _ => ?_
  refine .bind (.send _ (by decide) (by decide) _ _ rfl (by rfl)) fun _ => ?_
  refine .bind (.recv _ (by decide) (by decide) _ _ ClosedOff.eq (by rfl)) fun _ => ?_
  exact .ret _ _
theorem part10_waits : Steps m K c 26 29 (k0_part10 (F := F) i a1 h1 a2 h2 a3 h3 a4 h4 gM h5 cc0_scratch1 cc0_scratch2 c v hc w) := by
  rw [k0_part10_eq_skeleton]; unfold k0_part10_skel
  refine .bind (.send _ (by decide) (by decide) _ _ rfl (by rfl)) fun _ => ?_
  refine .bind (.recv _ (by decide) (by decide) _ _ ClosedOff.eq (by rfl)) fun _ => ?_
  refine .bind (.send _ (by decide) (by decide) _ _ rfl (by rfl)) fun _ => ?_
  exact .ret _ _
theorem part11_waits : Steps m K c 29 32 (k0_part11 (F := F) i a1 h1 a2 h2 a3 h3 a4 h4 gM h5 cc0_scratch1 cc0_scratch2 c v hc w) := by
  rw [k0_part11_eq_skeleton]; unfold k0_part11_skel
  refine .bind (.recv _ (by decide) (by decide) _ _ ClosedOff.eq (by rfl)) fun _ => ?_
  refine .bind (.send _ (by decide) (by decide) _ _ rfl (by rfl)) fun _ => ?_
  refine .bind (.recv _ (by decide) (by decide) _ _ ClosedOff.eq (by rfl)) fun _ => ?_
  exact .ret _ _
theorem part12_waits : Steps m K c 32 35 (k0_part12 (F := F) i a1 h1 a2 h2 a3 h3 a4 h4 gM h5 cc0_scratch1 cc0_scratch2 c v hc w) := by
  rw [k0_part12_eq_skeleton]; unfold k0_part12_skel
  refine .bind (.send _ (by decide) (by decide) _ _ rfl (by rfl)) fun _ => ?_
  refine .bind (.recv _ (by decide) (by decide) _ _ ClosedOff.eq (by rfl)) fun _ => ?_
  refine .bind (.send _ (by decide) (by decide) _ _ rfl (by rfl)) fun _ => ?_
  exact .ret _ _
theorem part13_waits : Steps m K c 35 38 (k0_part13 (F := F) i a1 h1 a2 h2 a3 h3 a4 h4 gM h5 cc0_scratch1 cc0_scratch2 c v hc w) := by
  rw [k0_part13_eq_skeleton]; unfold k0_part13_skel
  refine .bind (.recv _ (by decide) (by decide) _ _ ClosedOff.eq (by rfl)) fun _ => ?_
  refine .bind (.send _ (by decide) (by decide) _ _ rfl (by rfl)) fun _ => ?_
  refine .bind (.recv _ (by decide) (by decide) _ _ ClosedOff.eq (by rfl)) fun _ => ?_
  exact .ret _ _
theorem part14_waits : Steps m K c 38 40 (k0_part14 (F := F) i a1 h1 a2 h2 a3 h3 a4 h4 gM h5 cc0_scratch1 cc0_scratch2 c v hc w) := by
  rw [k0_part14_eq_skeleton]; unfold k0_part14_skel
  refine .bind (.send _ (by decide) (by decide) _ _ rfl (by rfl)) fun _ => ?_
  refine .bind (.recv _ (by decide) (by decide) _ _ ClosedOff.eq (by rfl)) fun _ => ?_
  exact .ret _ _
theorem part15_waits : Steps m K c 40 43 (k0_part15 (F := F) i a1 h1 a2 h2 a3 h3 a4 h4 gM h5 cc0_scratch1 cc0_scratch2 c v hc w) := by
  rw [k0_part15_eq_skeleton]; unfold k0_part15_skel
  refine .bind (.send _ (by decide) (by decide) _ _ rfl (by rfl)) fun _ => ?_
  refine .bind (.recv _ (by decide) (by decide) _ _ ClosedOff.eq (by rfl)) fun _ => ?_
  refine .bind (.send _ (by decide) (by decide) _ _ rfl (by rfl)) fun _ => ?_
  exact .ret _ _
theorem part16_waits : Steps m K c 43 46 (k0_part16 (F := F) i a1 h1 a2 h2 a3 h3 a4 h4 gM h5 cc0_scratch1 cc0_scratch2 c v hc) := by
  rw [k0_part16_eq_skeleton]; unfold k0_part16_skel
  refine .bind (.recv _ (by decide) (by decide) _ _ ClosedOff.eq (by rfl)) fun _ => ?_
  refine .bind (.send _ (by decide) (by decide) _ _ rfl (by rfl)) fun _ => ?_
  refine .bind (.recv _ (by decide) (by decide) _ _ ClosedOff.eq (by rfl)) fun _ => ?_
  exact .ret _ _
theorem part17_waits : Steps m K c 46 49 (k0_part17 (F := F) i a1 h1 a2 h2 a3 h3 a4 h4 gM h5 cc0_scratch1 cc0_scratch2 c v hc w) := by
  rw [k0_part17_eq_skeleton]; unfold k0_part17_skel
  refine .bind (.send _ (by decide) (by decide) _ _ rfl (by rfl)) fun _ => ?_
  refine .bind (.recv _ (by decide) (by decide) _ _ ClosedOff.eq (by rfl)) fun _ => ?_
  refine .bind (.send _ (by decide) (by decide) _ _ rfl (by rfl)) fun _ => ?_
  exact .ret _ _
theorem part18_waits : Steps m K c 49 52 (k0_part18 (F := F) i a1 h1 a2 h2 a3 h3 a4 h4 gM h5 cc0_scratch1 cc0_scratch2 c v hc) := by
  rw [k0_part18_eq_skeleton]; unfold k0_part18_skel
  refine .bind (.recv _ (by decide) (by decide) _ _ ClosedOff.eq (by rfl)) fun _ => ?_
  refine .bind (.send _ (by decide) (by decide) _ _ rfl (by rfl)) fun _ => ?_
  refine .bind (.recv _ (by decide) (by decide) _ _ ClosedOff.eq (by rfl)) fun _ => ?_
  exact .ret _ _
theorem part19_waits : Steps m K c 52 55 (k0_part19 (F := F) i a1 h1 a2 h2 a3 h3 a4 h4 gM h5 cc0_scratch1 cc0_scratch2 c v hc w) := by
  rw [k0_part19_eq_skeleton]; unfold k0_part19_skel
  refine .bind (.send _ (by decide) (by decide) _ _ rfl (by rfl)) fun _ => ?_
  refine .bind (.recv _ (by decide) (by decide) _ _ ClosedOff.eq (by rfl)) fun _ => ?_
  refine .bind (.send _ (by decide) (by decide) _ _ rfl (by rfl)) fun _ => ?_
  exact .ret _ _
theorem part20_waits : Steps m K c 55 58 (k0_part20 (F := F) i a1 h1 a2 h2 a3 h3 a4 h4 gM h5 cc0_scratch1 cc0_scratch2 c v hc) := by
  rw [k0_part20_eq_skeleton]; unfold k0_part20_skel
  refine .bind (.recv _ (by decide) (by decide) _ _ ClosedOff.eq (by rfl)) fun _ => ?_
  refine .bind (.send _ (by decide) (by decide) _ _ rfl (by rfl)) fun _ => ?_
  refine .bind (.recv _ (by decide) (by decide) _ _ ClosedOff.eq (by rfl)) fun _ => ?_
  exact .ret _ _
theorem part21_waits : Steps m K c 58 61 (k0_part21 (F := F) i a1 h1 a2 h2 a3 h3 a4 h4 gM h5 cc0_scratch1 cc0_scratch2 c v hc w) := by
  rw [k0_part21_eq_skeleton]; unfold k0_part21_skel
  refine .bind (.send _ (by decide) (by decide) _ _ rfl (by rfl)) fun _ => ?_
  refine .bind (.recv _ (by decide) (by decide) _ _ ClosedOff.eq (by rfl)) fun _ => ?_
  refine .bind (.send _ (by decide) (by decide) _ _ rfl (by rfl)) fun _ => ?_
  exact .ret _ _
theorem part22_waits : Steps m K c 61 64 (k0_part22 (F := F) i a1 h1 a2 h2 a3 h3 a4 h4 gM h5 cc0_scratch1 cc0_scratch2 c v hc) := by
  rw [k0_part22_eq_skeleton]; unfold k0_part22_skel
  refine .bind (.recv _ (by decide) (by decide) _ _ ClosedOff.eq (by rfl)) fun _ => ?_
  refine .bind (.send _ (by decide) (by decide) _ _ rfl (by rfl)) fun _ => ?_
  refine .bind (.recv _ (by decide) (by decide) _ _ ClosedOff.eq (by rfl)) fun _ => ?_
  exact .ret _ _
theorem part23_waits : Steps m K c 64 67 (k0_part23 (F := F) i a1 h1 a2 h2 a3 h3 a4 h4 gM h5 cc0_scratch1 cc0_scratch2 c v hc w) := by
  rw [k0_part23_eq_skeleton]; unfold k0_part23_skel
  refine .bind (.send _ (by decide) (by decide) _ _ rfl (by rfl)) fun _ => ?_
  refine .bind (.recv _ (by decide) (by decide) _ _ ClosedOff.eq (by rfl)) fun _ => ?_
  refine .bind (.send _ (by decide) (by decide) _ _ rfl (by rfl)) fun _ => ?_
  exact .ret _ _
theorem part24_waits : Steps m K c 67 70 (k0_part24 (F := F) i a1 h1 a2 h2 a3 h3 a4 h4 gM h5 cc0_scratch1 cc0_scratch2 c v hc w x) := by
  rw [k0_part24_eq_skeleton]; unfold k0_part24_skel
  refine .bind (.recv _ (by decide) (by decide) _ _ ClosedOff.eq (by rfl)) fun _ => ?_
  refine .bind (.send _ (by decide) (by decide) _ _ rfl (by rfl)) fun _ => ?_
  refine .bind (.recv _ (by decide) (by decide) _ _ ClosedOff.eq (by rfl)) fun _ => ?_
  exact .ret _ _
theorem part25_waits : Steps m K c 70 73 (k0_part25 (F := F) i a1 h1 a2 h2 a3 h3 a4 h4 gM h5 cc0_scratch1 cc0_scratch2 c v hc w) := by
  rw [k0_part25_eq_skeleton]; unfold k0_part25_skel
  refine .bind (.send _ (by decide) (by decide) _ _ rfl (by rfl)) fun _ => ?_
  refine .bind (.recv _ (by decide) (by decide) _ _ ClosedOff.eq (by rfl)) fun _ => ?_
  refine .bind (.send _ (by decide) (by decide) _ _ rfl (by rfl)) fun _ => ?_
  exact .ret _ _
theorem part26_waits : Steps m K c 73 76 (k0_part26 (F := F) i a1 h1 a2 h2 a3 h3 a4 h4 gM h5 cc0_scratch1 cc0_scratch2 c v hc w) := by
  rw [k0_part26_eq_skeleton]; unfold k0_part26_skel
  refine .bind (.recv _ (by decide) (by decide) _ _ ClosedOff.eq (by rfl)) fun _ => ?_
  refine .bind (.send _ (by decide) (by decide) _ _ rfl (by rfl)) fun _ => ?_
  refine .bind (.recv _ (by decide) (by decide) _ _ ClosedOff.eq (by rfl)) fun _ => ?_
  exact .ret _ _
theorem part27_waits : Steps m K c 76 79 (k0_part27 (F := F) i a1 h1 a2 h2 a3 h3 a4 h4 gM h5 cc0_scratch1 cc0_scratch2 c v hc w) := by
  rw [k0_part27_eq_skeleton]; unfold k0_part27_skel
  refine .bind (.send _ (by decide) (by decide) _ _ rfl (by rfl)) fun _ => ?_
  refine .bind (.recv _ (by decide) (by decide) _ _ ClosedOff.eq (by rfl)) fun _ => ?_
  refine .bind (.send _ (by decide) (by decide) _ _ rfl (by rfl)) fun _ => ?_
  exact .ret _ _
theorem part28_waits : Steps m K c 79 81 (k0_part28 (F := F) i a1 h1 a2 h2 a3 h3 a4 h4 gM h5 cc0_scratch1 cc0_scratch2 c v hc w) := by
  rw [k0_part28_eq_skeleton]; unfold k0_part28_skel
  refine .bind (.recv _ (by decide) (by decide) _ _ ClosedOff.eq (by rfl)) fun _ => ?_
  refine .bind (.send _ (by decide) (by decide) _ _ rfl (by rfl)) fun _ => ?_
  exact .ret _ _
theorem part29_waits : Steps m K c 81 84 (k0_part29 (F := F) i a1 h1 a2 h2 a3 h3 a4 h4 gM h5 cc0_scratch1 cc0_scratch2 c v hc) := by
  rw [k0_part29_eq_skeleton]; unfold k0_part29_skel
  refine .bind (.recv _ (by decide) (by decide) _ _ ClosedOff.eq (by rfl)) fun _ => ?_
  refine .bind (.send _ (by decide) (by decide) _ _ rfl (by rfl)) fun _ => ?_
  refine .bind (.recv _ (by decide) (by decide) _ _ ClosedOff.eq (by rfl)) fun _ => ?_
  exact .ret _ _
theorem part30_waits : Steps m K c 84 87 (k0_part30 (F := F) i a1 h1 a2 h2 a3 h3 a4 h4 gM h5 cc0_scratch1 cc0_scratch2 c v hc w) := by
  rw [k0_part30_eq_skeleton]; unfold k0_part30_skel
  refine .bind (.send _ (by decide) (by decide) _ _ rfl (by rfl)) fun _ => ?_
  refine .bind (.recv _ (by decide) (by decide) _ _ ClosedOff.eq (by rfl)) fun _ => ?_
  refine .bind (.send _ (by decide) (by decide) _ _ rfl (by rfl)) fun _ => ?_
  exact .ret _ _
theorem part31_waits : Steps m K c 87 90 (k0_part31 (F := F) i a1 h1 a2 h2 a3 h3 a4 h4 gM h5 cc0_scratch1 cc0_scratch2 c v hc) := by
  rw [k0_part31_eq_skeleton]; unfold k0_part31_skel
  refine .bind (.recv _ (by decide) (by decide) _ _ ClosedOff.eq (by rfl)) fun _ => ?_
  refine .bind (.send _ (by decide) (by decide) _ _ rfl (by rfl)) fun _ => ?_
  refine .bind (.recv _ (by decide) (by decide) _ _ ClosedOff.eq (by rfl)) fun _ => ?_
  exact .ret _ _
theorem part32_waits : Steps m K c 90 93 (k0_part32 (F := F) i a1 h1 a2 h2 a3 h3 a4 h4 gM h5 cc0_scratch1 cc0_scratch2 c v hc w) := by
  rw [k0_part32_eq_skeleton]; unfold k0_part32_skel
  refine .bind (.send _ (by decide) (by decide) _ _ rfl (by rfl)) fun _ => ?_
  refine .bind (.recv _ (by decide) (by decide) _ _ ClosedOff.eq (by rfl)) fun _ => ?_
  refine .bind (.send _ (by decide) (by decide) _ _ rfl (by rfl)) fun _ => ?_
  exact .ret _ _

end Cert.KernelIdeal.Talk
-- ==== Proof.Last.lean ====
/- The end of the last grid point: once every wait is done, the whole scratch is known, and the result is combined from it. -/
module

public import proofs.«01_k».proof.Proof.Point
public import proofs.«01_k».proof.Proof.Parts
public import Idealize.ShloMosaic.Lib.ValueIdxCore

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable {m : (ℓ : Loc nD τ sig) → Buf (Elt F) ℓ} {K : GSem nD τ sig → ℕ} {c : Dev nD}

/-! ## The waits in pairs -/

/-- The wait on the send cell and the one on the receive cell, of copy `s` of batch entry `b`. -/
def x0 (b : Fin 16) (s : Fin 3) : Fin 96 := ⟨6 * b.val + 2 * s.val, by have := b.isLt; have := s.isLt; omega⟩
def x1 (b : Fin 16) (s : Fin 3) : Fin 96 := ⟨6 * b.val + 2 * s.val + 1, by have := b.isLt; have := s.isLt; omega⟩

/-- The waits are numbered by batch entry, copy and kind. -/
def xEquiv : (Fin 16 × Fin 3) × Fin 2 ≃ Fin 96 where
  toFun p := ⟨6 * p.1.1.val + 2 * p.1.2.val + p.2.val, by have := p.1.1.isLt; have := p.1.2.isLt; have := p.2.isLt; omega⟩
  invFun x := ((⟨x.val / 6, by have := x.isLt; omega⟩, ⟨x.val / 2 % 3, Nat.mod_lt _ (by decide)⟩), ⟨x.val % 2, Nat.mod_lt _ (by decide)⟩)
  left_inv p := by
    obtain ⟨⟨b, s⟩, k⟩ := p
    have := b.isLt; have := s.isLt; have := k.isLt
    refine Prod.ext (Prod.ext (Fin.ext ?_) (Fin.ext ?_)) (Fin.ext ?_) <;> dsimp only <;> omega
  right_inv x := by
    refine Fin.ext ?_
    dsimp only
    omega

theorem bigSep_x (Φ : Fin 96 → sProp 𝕄) :
    bigSep Finset.univ Φ = bigSep Finset.univ fun b : Fin 16 => bigSep Finset.univ fun s : Fin 3 => iprop(Φ (x0 b s) ∗ Φ (x1 b s)) := by
  rw [BI.bigSep_univ_equiv xEquiv Φ, BI.bigSep_univ_prod, BI.bigSep_univ_prod]
  refine BI.bigSep_congr fun b _ => BI.bigSep_congr fun s _ => ?_
  rw [BI.bigSep_fin_two]
  rfl

theorem xs_x0 (b : Fin 16) (s : Fin 3) : xs (x0 b s) = s := Fin.ext (by have := b.isLt; have := s.isLt; show (6 * b.val + 2 * s.val) / 2 % 3 = s.val; omega)
theorem xs_x1 (b : Fin 16) (s : Fin 3) : xs (x1 b s) = s := Fin.ext (by have := b.isLt; have := s.isLt; show (6 * b.val + 2 * s.val + 1) / 2 % 3 = s.val; omega)
theorem xb_x0 (b : Fin 16) (s : Fin 3) : xb (x0 b s) = b := Fin.ext (by have := b.isLt; have := s.isLt; show (6 * b.val + 2 * s.val) / 6 = b.val; omega)
theorem xb_x1 (b : Fin 16) (s : Fin 3) : xb (x1 b s) = b := Fin.ext (by have := b.isLt; have := s.isLt; show (6 * b.val + 2 * s.val + 1) / 6 = b.val; omega)
theorem even_x0 (b : Fin 16) (s : Fin 3) : (x0 b s).val % 2 = 0 := by show (6 * b.val + 2 * s.val) % 2 = 0; omega
theorem odd_x1 (b : Fin 16) (s : Fin 3) : ¬ (x1 b s).val % 2 = 0 := by show ¬ (6 * b.val + 2 * s.val + 1) % 2 = 0; omega

theorem xcell_x0 (c : Dev nD) (b : Fin 16) (s : Fin 3) : xcell c (x0 b s) = sendCell c s b := by
  unfold xcell xsem; rw [if_pos (even_x0 b s), xs_x0, xb_x0]
theorem xcell_x1 (c : Dev nD) (b : Fin 16) (s : Fin 3) : xcell c (x1 b s) = recvCell c (pk c s) b := by
  unfold xcell xsem; rw [if_neg (odd_x1 b s), xs_x1, xb_x1]
theorem xpay_x0 (c : Dev nD) (b : Fin 16) (s : Fin 3) : xpay m c (x0 b s) = sendPay m c s b := by
  unfold xpay; rw [if_pos (even_x0 b s), xs_x0, xb_x0]
theorem xpay_x1 (c : Dev nD) (b : Fin 16) (s : Fin 3) : xpay m c (x1 b s) = recvPay m c (pk c s) b := by
  unfold xpay; rw [if_neg (odd_x1 b s), xs_x1, xb_x1]

/-- A device's row and its three peers' are all the rows. -/
theorem bigSep_row (c : Dev nD) (Φ : Fin 4 → sProp 𝕄) : bigSep Finset.univ Φ = iprop(Φ c ∗ bigSep Finset.univ fun s : Fin 3 => Φ (pk c s)) := by
  rw [BI.bigSep_univ_eq_bigSepL [c, pk c 0, pk c 1, pk c 2] (by revert c; decide) (by revert c; decide), bigSep_three]
  rfl

/-! ## The whole scratch -/

/-- Every slot of the scratch is what its row's device publishes. -/
def allGood (m : (ℓ : Loc nD τ sig) → Buf (Elt F) ℓ) (X : S4x16x16x128.Idx → Elt F .f32) : Prop :=
  ∀ t : Fin 4 × Fin 16, good m t.1 t.2 fun j => X ((slotR t.1 t.2).emb j)

theorem slots_disjoint : Pairwise fun t t' : Fin 4 × Fin 16 => Disjoint (slotR t.1 t.2).set (slotR t'.1 t'.2).set := by
  intro t t' h
  rw [Finset.disjoint_left]
  intro i hi hi'
  rw [Rect.mem_set_unit] at hi hi'
  refine h (Prod.ext (Fin.ext ?_) (Fin.ext ?_))
  · have h0 := hi 0; have h0' := hi' 0
    change t.1.val ≤ _ ∧ _ < t.1.val + 1 at h0; change t'.1.val ≤ _ ∧ _ < t'.1.val + 1 at h0'
    omega
  · have h1 := hi 1; have h1' := hi' 1
    change t.2.val ≤ _ ∧ _ < t.2.val + 1 at h1; change t'.2.val ≤ _ ∧ _ < t'.2.val + 1 at h1'
    omega

theorem slots_cover (i : S4x16x16x128.Idx) : ∃ t : Fin 4 × Fin 16, i ∈ (slotR t.1 t.2).set := by
  refine ⟨(i 0, i 1), ?_⟩
  rw [Rect.mem_set_unit]
  intro a
  match a with
  | 0 => show (i 0).val ≤ (i 0).val ∧ (i 0).val < (i 0).val + 1; omega
  | 1 => show (i 1).val ≤ (i 1).val ∧ (i 1).val < (i 1).val + 1; omega
  | 2 => have h : (i 2).val < 16 := (i 2).isLt; show 0 ≤ (i 2).val ∧ (i 2).val < 0 + 16; omega
  | 3 => have h : (i 3).val < 128 := (i 3).isLt; show 0 ≤ (i 3).val ∧ (i 3).val < 0 + 128; omega

/-- What is left when all waits are done: the cells at zero, the whole scratch as published, nothing owed. -/
def gathered (m : (ℓ : Loc nD τ sig) → Buf (Elt F) ℓ) (c : Dev nD) : sProp 𝕄 :=
  iprop((bigSep Finset.univ fun x : Fin 96 => semVal (xcell c x) 0) ∗ ownsSat (c : Thread nD τ) gM fullShare (allGood m)
    ∗ ∃ W, owes (c : Thread nD τ) (0 : CellTallies nD τ sig Unit) W)

/-- The three shares of a slot lent to the copies are the slot again. -/
theorem thirds_back (m : (ℓ : Loc nD τ sig) → Buf (Elt F) ℓ) (c : Dev nD) (b : Fin 16) :
    (bigSep Finset.univ fun s : Fin 3 => sendPay m c s b : sProp 𝕄) ⊢ slotGood m c c b fullShare := by
  rw [bigSep_three]
  exact (ownsSat_thirds (c : Thread nD τ) (slotM c b) fullShare (good m c b)).2

theorem gather_slots (m : (ℓ : Loc nD τ sig) → Buf (Elt F) ℓ) (c : Dev nD) :
    (bigSep Finset.univ fun x : Fin 96 => xpay m c x : sProp 𝕄) ⊢ ownsSat (c : Thread nD τ) gM fullShare (allGood m) := by
  have h1 : (bigSep Finset.univ fun x : Fin 96 => xpay m c x : sProp 𝕄)
      = bigSep Finset.univ fun b : Fin 16 => iprop((bigSep Finset.univ fun s : Fin 3 => sendPay m c s b) ∗ bigSep Finset.univ fun s : Fin 3 => recvPay m c (pk c s) b) := by
    rw [bigSep_x]
    refine bigSep_congr fun b _ => ?_
    rw [← bigSep_sep']
    refine bigSep_congr fun s _ => ?_
    rw [xpay_x0, xpay_x1]
  rw [h1]
  refine (bigSep_mono fun b _ => sep_mono (thirds_back m c b) .rfl).trans ?_
  have h2 : (bigSep Finset.univ fun b : Fin 16 => iprop(slotGood m c c b fullShare ∗ bigSep Finset.univ fun s : Fin 3 => recvPay m c (pk c s) b) : sProp 𝕄)
      = bigSep Finset.univ fun t : Fin 4 × Fin 16 => ownsSat (c : Thread nD τ) (gM.slice (slotR t.1 t.2) (fun _ => rfl)) fullShare (good m t.1 t.2) := by
    rw [BI.bigSep_univ_prod, BI.bigSep_univ_comm]
    refine bigSep_congr fun b _ => ?_
    rw [bigSep_row c]
    rfl
  rw [h2]
  exact ownsSat_of_rects (c : Thread nD τ) gM fullShare (fun t : Fin 4 × Fin 16 => slotR t.1 t.2) (fun _ _ => rfl) (fun t t' h => slots_disjoint h)
    (Finset.eq_univ_iff_forall.2 fun i => Finset.mem_biUnion.2 ((slots_cover i).imp fun t h => ⟨Finset.mem_univ t, h⟩)) (fun t => good m t.1 t.2)

theorem gather : waited m c 96 ⊢ gathered m c := by
  have h : (bigSep Finset.univ fun x : Fin 96 => if x.val < 96 then xafter m c x else xbefore c x : sProp 𝕄)
      = iprop((bigSep Finset.univ fun x : Fin 96 => semVal (xcell c x) 0) ∗ bigSep Finset.univ fun x : Fin 96 => xpay m c x) := by
    rw [← bigSep_sep']
    exact bigSep_congr fun x _ => if_pos x.isLt
  unfold waited gathered
  rw [h]
  iintro ⟨⟨Hv, Hp⟩, HO⟩
  isplitl [Hv]; · iexact Hv
  isplitl [Hp]
  · iapply (gather_slots m c) $$ Hp
  · iexact HO

/-- Before the first wait. -/
theorem prepare : iprop((bigSep Finset.univ fun x : Fin 96 => atPos ER (xcell c x) 0 ∅ 0) ∗ (bigSep Finset.univ fun b : Fin 16 => sent c b)
      ∗ (bigSep Finset.univ fun b : Fin 16 => bigSep Finset.univ fun s : Fin 3 => cred (tallyAt (recvCell c (pk c s) b) () N))
      ∗ ∃ W, owes (c : Thread nD τ) (0 : CellTallies nD τ sig Unit) W)
    ⊢ waited (F := F) m c 0 := by
  have h : (bigSep Finset.univ fun x : Fin 96 => if x.val < 0 then xafter m c x else xbefore c x : sProp 𝕄)
      = iprop((bigSep Finset.univ fun x : Fin 96 => atPos ER (xcell c x) 0 ∅ 0) ∗ (bigSep Finset.univ fun b : Fin 16 => sent c b)
      ∗ (bigSep Finset.univ fun b : Fin 16 => bigSep Finset.univ fun s : Fin 3 => cred (tallyAt (recvCell c (pk c s) b) () N))) := by
    have h' : (bigSep Finset.univ fun x : Fin 96 => if x.val < 0 then xafter m c x else xbefore c x : sProp 𝕄)
        = bigSep Finset.univ fun x : Fin 96 => iprop(atPos ER (xcell c x) 0 ∅ 0 ∗ cred (tallyAt (xcell c x) () N)) :=
      bigSep_congr fun x _ => if_neg (Nat.not_lt_zero _)
    rw [h', bigSep_sep']
    congr 1
    rw [bigSep_x, ← bigSep_sep']
    refine bigSep_congr fun b _ => ?_
    unfold sent
    rw [← bigSep_sep']
    refine bigSep_congr fun s _ => ?_
    rw [xcell_x0, xcell_x1]
  unfold waited
  rw [h]
  iintro ⟨H1, H2, H3, HO⟩
  isplitl [H1 H2 H3]
  · isplitl [H1]; · iexact H1
    isplitl [H2]; · iexact H2
    iexact H3
  · iexact HO

/-! ## What is read of the scratch -/

/-- The maxima, the sums and the unnormalised values of all devices and batch entries, side by side. -/
def mAll (m : (ℓ : Loc nD τ sig) → Buf (Elt F) ℓ) : Vec F S4x16x16x1 .f32 := fun j => mVal m (j 0) (j 1) (ix4 0 0 (j 2) (j 3))
def lAll (m : (ℓ : Loc nD τ sig) → Buf (Elt F) ℓ) : Vec F S4x16x16x1 .f32 := fun j => lVal m (j 0) (j 1) (ix4 0 0 (j 2) (j 3))
def uAll (m : (ℓ : Loc nD τ sig) → Buf (Elt F) ℓ) : Vec F S4x16x16x64 .f32 := fun j => uVal m (j 0) (j 1) (ix4 0 0 (j 2) (j 3))
/-- The result: the shares of the four devices combined. It is the same on every device. -/
def res (m : (ℓ : Loc nD τ sig) → Buf (Elt F) ℓ) : FVec F S16x1x16x64 .f32 := k0_pay3 (k0_pay1 (mAll m)) (k0_pay2 (lAll m)) (uAll m)

theorem mAll_of {X : S4x16x16x128.Idx → Elt F .f32} (h : allGood m X) (inb) :
    (fun j => X ((Rect.unit (s := S4x16x16x128) ![0, 0, 0, 64] S4x16x16x1.size inb).emb j)) = mAll m := by
  funext j
  refine Eq.trans (congrArg X ?_) (congrFun (h (j 0, j 1)).2.1 (ix4 0 0 (j 2) (j 3)))
  funext a
  refine Fin.ext ?_
  match a with
  | 0 => show 0 + 1 * (j 0).val = (j 0).val + 1 * (0 + 1 * 0); omega
  | 1 => show 0 + 1 * (j 1).val = (j 1).val + 1 * (0 + 1 * 0); omega
  | 2 => show 0 + 1 * (j 2).val = 0 + 1 * (0 + 1 * (j 2).val); omega
  | 3 => show 64 + 1 * (j 3).val = 0 + 1 * (64 + 1 * (j 3).val); omega
theorem lAll_of {X : S4x16x16x128.Idx → Elt F .f32} (h : allGood m X) (inb) :
    (fun j => X ((Rect.unit (s := S4x16x16x128) ![0, 0, 0, 65] S4x16x16x1.size inb).emb j)) = lAll m := by
  funext j
  refine Eq.trans (congrArg X ?_) (congrFun (h (j 0, j 1)).2.2 (ix4 0 0 (j 2) (j 3)))
  funext a
  refine Fin.ext ?_
  match a with
  | 0 => show 0 + 1 * (j 0).val = (j 0).val + 1 * (0 + 1 * 0); omega
  | 1 => show 0 + 1 * (j 1).val = (j 1).val + 1 * (0 + 1 * 0); omega
  | 2 => show 0 + 1 * (j 2).val = 0 + 1 * (0 + 1 * (j 2).val); omega
  | 3 => show 65 + 1 * (j 3).val = 0 + 1 * (65 + 1 * (j 3).val); omega
theorem uAll_of {X : S4x16x16x128.Idx → Elt F .f32} (h : allGood m X) (inb) :
    (fun j => X ((Rect.unit (s := S4x16x16x128) ![0, 0, 0, 0] S4x16x16x64.size inb).emb j)) = uAll m := by
  funext j
  refine Eq.trans (congrArg X ?_) (congrFun (h (j 0, j 1)).1 (ix4 0 0 (j 2) (j 3)))
  funext a
  refine Fin.ext ?_
  match a with
  | 0 => show 0 + 1 * (j 0).val = (j 0).val + 1 * (0 + 1 * 0); omega
  | 1 => show 0 + 1 * (j 1).val = (j 1).val + 1 * (0 + 1 * 0); omega
  | 2 => show 0 + 1 * (j 2).val = 0 + 1 * (0 + 1 * (j 2).val); omega
  | 3 => show 0 + 1 * (j 3).val = 0 + 1 * (0 + 1 * (j 3).val); omega

/-- A load from the whole scratch after the waits. -/
theorem load_gathered (r : Rect S4x16x16x128) {α : Type} (k : (r.toLoadRect.shape.Idx → Elt F .f32) → Prog (TpuEff nD τ sig (Elt F) Λ₀ .tc) α) (hl) (Q : α → sProp 𝕄) :
    iprop(gathered m c ∗ (∀ X, ⌜allGood m X⌝ -∗ gathered m c -∗ wp frame (wpE (defs₀ (F := F)) 𝒱₀ c none) Set.univ (k fun j => X (r.emb j)) Q))
      ⊢ wp frame (wpE (defs₀ (F := F)) 𝒱₀ c none) Set.univ (Prog.lift (.load gM r.toLoadRect hl) >>= k) Q := by
  unfold gathered ownsSat
  iintro ⟨⟨Hv, ⟨%f, %hf, H⟩, HO⟩, Hk⟩
  iapply (wp_load (defs := defs₀ (F := F)) 𝒱₀ (c : Thread nD τ) none Set.univ (m := gM) (r := r.toLoadRect) (S := gM.view.set) (q := fullShare) (f := f)
    (View.setOn_subset_set _ _)) $$ H
  iintro H
  iapply (show iprop(∀ X, ⌜allGood m X⌝ -∗ ((bigSep Finset.univ fun x : Fin 96 => semVal (xcell c x) 0)
      ∗ (∃ f, ⌜allGood m (gM.view.read (Elt F) f)⌝ ∗ (gM.view.loc (c : Thread nD τ) ↦[gM.view.set]{fullShare} f)) ∗ ∃ W, owes (c : Thread nD τ) (0 : CellTallies nD τ sig Unit) W)
        -∗ wp frame (wpE (defs₀ (F := F)) 𝒱₀ c none) Set.univ (k fun j => X (r.emb j)) Q) ⊢ _ from forall_elim (gM.view.read (Elt F) f)) $$ Hk
  · ipureintro; exact hf
  isplitl [Hv]; · iexact Hv
  isplitl [H]
  · iexists f
    isplitr; · ipureintro; exact hf
    iexact H
  · iexact HO

/-! ## The last point's program -/

/-- `p` performs the waits from `n` on and ends with `Post`. -/
def Runs (m : (ℓ : Loc nD τ sig) → Buf (Elt F) ℓ) (K : GSem nD τ sig → ℕ) (c : Dev nD) (n : ℕ) {α : Type} (Post : α → sProp 𝕄) (p : Prog (TpuEff nD τ sig (Elt F) Λ₀ .tc) α) : Prop :=
  ∀ Q : α → sProp 𝕄, iprop(xinvs m K c ∗ waited m c n ∗ (∀ a, Post a -∗ Q a)) ⊢ wp frame (wpE (defs₀ (F := F)) 𝒱₀ c none) Set.univ p Q

theorem Steps.then {n n' : ℕ} {α β : Type} {Post : β → sProp 𝕄} {p : Prog (TpuEff nD τ sig (Elt F) Λ₀ .tc) α} {k : α → Prog (TpuEff nD τ sig (Elt F) Λ₀ .tc) β}
    (hp : Steps m K c n n' p) (hk : ∀ a, Runs m K c n' Post (k a)) : Runs m K c n Post (p >>= k) := fun Q => by
  iintro ⟨#Hi, Hw, HQ⟩
  iapply (hp.seq k Q)
  isplitr; · iexact Hi
  isplitl [Hw]; · iexact Hw
  iintro %a Hw
  iapply (hk a Q)
  isplitr; · iexact Hi
  isplitl [Hw]; · iexact Hw
  iexact HQ

variable (i : grid0.Coords) (a1 : Memref sig .tc .vmem S1x1x16x64 .bf16) (h1 : a1.IsWhole) (a2 : Memref sig .tc .vmem S1x16x64x1024 .bf16) (h2 : a2.IsWhole)
  (a3 : Memref sig .tc .vmem S1x16x64x1024 .bf16) (h3 : a3.IsWhole) (a4 : Memref sig .tc .vmem S16x1x16x64 .f32) (h4 : a4.IsWhole) (h5 : gM.IsWhole)
  (v : BitVec 32) (hc : k0_cond2 i = 1#1)

theorem part33_run : Runs m K c 93 (fun p => iprop(⌜p = ⟨k0_pay1 (mAll m), k0_pay2 (lAll m)⟩⌝ ∗ gathered m c))
    (k0_part33 (F := F) i a1 h1 a2 h2 a3 h3 a4 h4 gM h5 cc0_scratch1 cc0_scratch2 c v hc) := by
  rw [k0_part33_eq_skeleton]; unfold k0_part33_skel
  refine Steps.then (n' := 94) (.recv _ (by decide) (by decide) _ _ ClosedOff.eq (by rfl)) fun _ => ?_
  refine Steps.then (n' := 95) (.send _ (by decide) (by decide) _ _ rfl (by rfl)) fun _ => ?_
  refine Steps.then (n' := 96) (.recv _ (by decide) (by decide) _ _ ClosedOff.eq (by rfl)) fun _ => ?_
  intro Q
  iintro ⟨-, Hw, HQ⟩
  ihave Hg := gather $$ Hw
  iapply (load_gathered (Rect.unit (s := S4x16x16x128) ![0, 0, 0, 64] S4x16x16x1.size inb_S4x16x16x128_S4x16x16x1_0_0_0_64))
  isplitl [Hg]; · iexact Hg
  iintro %X %hX Hg
  rw [mAll_of hX]
  iapply (load_gathered (Rect.unit (s := S4x16x16x128) ![0, 0, 0, 65] S4x16x16x1.size inb_S4x16x16x128_S4x16x16x1_0_0_0_65))
  isplitl [Hg]; · iexact Hg
  iintro %Y %hY Hg
  rw [lAll_of hY, wp_pure]
  imodintro
  iapply HQ
  isplitr; · ipureintro; rfl
  iexact Hg

/-- All waits, and the result combined from the scratch. -/
theorem part34_run : Runs m K c 0 (fun p => iprop(⌜p = res m⌝ ∗ gathered m c))
    (k0_part34 (F := F) i a1 h1 a2 h2 a3 h3 a4 h4 gM h5 cc0_scratch1 cc0_scratch2 c v hc) := by
  rw [k0_part34_eq_skeleton]; unfold k0_part34_skel
  refine Steps.then (n' := 2) (part1_waits i a1 h1 a2 h2 a3 h3 a4 h4 h5 v hc) fun _ => ?_
  refine Steps.then (n' := 5) (part2_waits i a1 h1 a2 h2 a3 h3 a4 h4 h5 v _ hc) fun _ => ?_
  refine Steps.then (n' := 8) (part3_waits i a1 h1 a2 h2 a3 h3 a4 h4 h5 v hc) fun _ => ?_
  refine Steps.then (n' := 11) (part4_waits i a1 h1 a2 h2 a3 h3 a4 h4 h5 v _ hc) fun _ => ?_
  refine Steps.then (n' := 14) (part5_waits i a1 h1 a2 h2 a3 h3 a4 h4 h5 v hc) fun _ => ?_
  refine Steps.then (n' := 17) (part6_waits i a1 h1 a2 h2 a3 h3 a4 h4 h5 v _ hc) fun _ => ?_
  refine Steps.then (n' := 20) (part7_waits i a1 h1 a2 h2 a3 h3 a4 h4 h5 v hc) fun _ => ?_
  refine Steps.then (n' := 23) (part8_waits i a1 h1 a2 h2 a3 h3 a4 h4 h5 v _ hc) fun _ => ?_
  refine Steps.then (n' := 26) (part9_waits i a1 h1 a2 h2 a3 h3 a4 h4 h5 v _ _ hc) fun _ => ?_
  refine Steps.then (n' := 29) (part10_waits i a1 h1 a2 h2 a3 h3 a4 h4 h5 v _ hc) fun _ => ?_
  refine Steps.then (n' := 32) (part11_waits i a1 h1 a2 h2 a3 h3 a4 h4 h5 v _ hc) fun _ => ?_
  refine Steps.then (n' := 35) (part12_waits i a1 h1 a2 h2 a3 h3 a4 h4 h5 v _ hc) fun _ => ?_
  refine Steps.then (n' := 38) (part13_waits i a1 h1 a2 h2 a3 h3 a4 h4 h5 v _ hc) fun _ => ?_
  refine Steps.then (n' := 40) (part14_waits i a1 h1 a2 h2 a3 h3 a4 h4 h5 v _ hc) fun _ => ?_
  refine Steps.then (n' := 43) (part15_waits i a1 h1 a2 h2 a3 h3 a4 h4 h5 v _ hc) fun _ => ?_
  refine Steps.then (n' := 46) (part16_waits i a1 h1 a2 h2 a3 h3 a4 h4 h5 v hc) fun _ => ?_
  refine Steps.then (n' := 49) (part17_waits i a1 h1 a2 h2 a3 h3 a4 h4 h5 v _ hc) fun _ => ?_
  refine Steps.then (n' := 52) (part18_waits i a1 h1 a2 h2 a3 h3 a4 h4 h5 v hc) fun _ => ?_
  refine Steps.then (n' := 55) (part19_waits i a1 h1 a2 h2 a3 h3 a4 h4 h5 v _ hc) fun _ => ?_
  refine Steps.then (n' := 58) (part20_waits i a1 h1 a2 h2 a3 h3 a4 h4 h5 v hc) fun _ => ?_
  refine Steps.then (n' := 61) (part21_waits i a1 h1 a2 h2 a3 h3 a4 h4 h5 v _ hc) fun _ => ?_
  refine Steps.then (n' := 64) (part22_waits i a1 h1 a2 h2 a3 h3 a4 h4 h5 v hc) fun _ => ?_
  refine Steps.then (n' := 67) (part23_waits i a1 h1 a2 h2 a3 h3 a4 h4 h5 v _ hc) fun _ => ?_
  refine Steps.then (n' := 70) (part24_waits i a1 h1 a2 h2 a3 h3 a4 h4 h5 v _ _ hc) fun _ => ?_
  refine Steps.then (n' := 73) (part25_waits i a1 h1 a2 h2 a3 h3 a4 h4 h5 v _ hc) fun _ => ?_
  refine Steps.then (n' := 76) (part26_waits i a1 h1 a2 h2 a3 h3 a4 h4 h5 v _ hc) fun _ => ?_
  refine Steps.then (n' := 79) (part27_waits i a1 h1 a2 h2 a3 h3 a4 h4 h5 v _ hc) fun _ => ?_
  refine Steps.then (n' := 81) (part28_waits i a1 h1 a2 h2 a3 h3 a4 h4 h5 v _ hc) fun _ => ?_
  refine Steps.then (n' := 84) (part29_waits i a1 h1 a2 h2 a3 h3 a4 h4 h5 v hc) fun _ => ?_
  refine Steps.then (n' := 87) (part30_waits i a1 h1 a2 h2 a3 h3 a4 h4 h5 v _ hc) fun _ => ?_
  refine Steps.then (n' := 90) (part31_waits i a1 h1 a2 h2 a3 h3 a4 h4 h5 v hc) fun _ => ?_
  refine Steps.then (n' := 93) (part32_waits i a1 h1 a2 h2 a3 h3 a4 h4 h5 v _ hc) fun _ => ?_
  intro Q
  rw [wp_bind]
  iintro ⟨#Hi, Hw, HQ⟩
  iapply (part33_run i a1 h1 a2 h2 a3 h3 a4 h4 h5 v hc _)
  isplitr; · iexact Hi
  isplitl [Hw]; · iexact Hw
  iintro %p ⟨%hp, Hg⟩
  subst hp
  iapply (load_gathered (Rect.unit (s := S4x16x16x128) ![0, 0, 0, 0] S4x16x16x64.size inb_S4x16x16x128_S4x16x16x64_0_0_0_0))
  isplitl [Hg]; · iexact Hg
  iintro %X %hX Hg
  rw [uAll_of hX, wp_pure]
  imodintro
  iapply HQ
  isplitr; · ipureintro; rfl
  iexact Hg

end Cert.KernelIdeal.Talk
-- ==== Proof.Body.lean ====
/- The grid points: what a device holds before each, and that the body takes it from one to the next. -/
module

public import proofs.«01_k».proof.Proof.Last

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable {m : (ℓ : Loc nD τ sig) → Buf (Elt F) ℓ} {K : GSem nD τ sig → ℕ} {c : Dev nD}

/-! ## What a device holds before a point -/

/-- What holds throughout: the cells' invariants and the levels. -/
def always (m : (ℓ : Loc nD τ sig) → Buf (Elt F) ℓ) (K : GSem nD τ sig → ℕ) (c : Dev nD) : sProp 𝕄 :=
  iprop(xinvs m K c ∗ (bigSep Finset.univ fun b : Fin 16 => rowInvs m K c b) ∗ barInvs m K c ∗ levAts L lv)
instance always_persistent (m : (ℓ : Loc nD τ sig) → Buf (Elt F) ℓ) (K : GSem nD τ sig → ℕ) (c : Dev nD) : BI.Persistent (always m K c) := by unfold always; infer_instance
theorem always_row (b : Fin 16) : always m K c ⊢ rowInvs m K c b := by
  have h : (bigSep Finset.univ fun b : Fin 16 => rowInvs m K c b : sProp 𝕄) ⊢ rowInvs m K c b := bigSep_elim (Finset.mem_univ b)
  unfold always
  iintro ⟨-, H, -⟩
  iapply h $$ H
theorem always_x : always m K c ⊢ xinvs m K c := by
  unfold always
  iintro ⟨H, -⟩
  iexact H
theorem always_bar : always m K c ⊢ iprop(barInvs m K c ∗ levAts L lv) := by
  unfold always
  iintro ⟨-, -, H⟩
  iexact H

/-- For the waits of the last point: where the cells stand, and the landings' credits. -/
def carried (c : Dev nD) : sProp 𝕄 :=
  iprop((bigSep Finset.univ fun x : Fin 96 => atPos ER (xcell c x) 0 ∅ 0)
    ∗ bigSep Finset.univ fun b : Fin 16 => bigSep Finset.univ fun s : Fin 3 => cred (tallyAt (recvCell c (pk c s) b) () N))
/-- What no point touches: the generator's register, and the receive semaphores of the own row, on which nothing lands. -/
def rests (c : Dev nD) : sProp 𝕄 := iprop((∃ r, prngReg c r) ∗ bigSep Finset.univ fun b : Fin 16 => semVal (recvCell c c b) 0)
/-- The right to make one copy. -/
def tok (c : Dev nD) (s : Fin 3) (b : Fin 16) : sProp 𝕄 :=
  iprop(dutyTok ER (sendCell c s b) 0 0 ∗ dutyTok ER (recvCell (pk c s) c b) 0 0 ∗ reached ER (sendCell c s b) 0)
/-- What the copies of batch entry `b` need. -/
def todo (c : Dev nD) (b : Fin 16) : sProp 𝕄 := iprop(slotAny c c b ∗ bigSep Finset.univ fun s : Fin 3 => fuel c s b)
/-- Before the barrier, -/
def first (c : Dev nD) : sProp 𝕄 :=
  iprop(((bigSep Finset.univ fun s : Fin 3 => hail c s) ∗ atPos ER (barCell c) 0 ∅ 0 ∗ cred (tallyAt (barCell c) () 3))
    ∗ (bigSep Finset.univ fun b : Fin 16 => slotAny c c b) ∗ bigSep Finset.univ fun b : Fin 16 => bigSep Finset.univ fun s : Fin 3 => tok c s b)
/-- and after it, the copies of the first `n` batch entries sent. -/
def begun (c : Dev nD) (n : ℕ) : sProp 𝕄 :=
  iprop(semVal (barCell c) 0 ∗ bigSep Finset.univ fun b : Fin 16 => if b.val < n then sent c b else todo c b)
/-- After the last point. -/
def ended (c : Dev nD) : sProp 𝕄 :=
  iprop(semVal (barCell c) 0 ∗ (bigSep Finset.univ fun x : Fin 96 => semVal (xcell c x) 0) ∗ ownsSat (c : Thread nD τ) gM fullShare (fun _ => True))
/-- Before point `n`, but for what no point touches. -/
def inner (m : (ℓ : Loc nD τ sig) → Buf (Elt F) ℓ) (c : Dev nD) (n : ℕ) : sProp 𝕄 :=
  if n < 16 then iprop(∃ K, always m K c ∗ carried c ∗ if n = 0 then first c else begun c n) else ended c
theorem inner_first : inner m c 0 = iprop(∃ K, always m K c ∗ carried c ∗ first c) := by unfold inner; rw [if_pos (by decide), if_pos rfl]
theorem inner_later (n : ℕ) (h : n ≠ 0) (h' : n < 16) : inner m c n = iprop(∃ K, always m K c ∗ carried c ∗ begun c n) := by
  unfold inner; rw [if_pos h', if_neg h]
theorem inner_last : inner m c 16 = ended c := by unfold inner; rw [if_neg (by decide)]

/-- The peers' slots, got at the barrier, with the rights to copy into them. -/
theorem begin : iprop(barOut c ∗ (bigSep Finset.univ fun b : Fin 16 => slotAny c c b) ∗ bigSep Finset.univ fun b : Fin 16 => bigSep Finset.univ fun s : Fin 3 => tok c s b)
    ⊢ iprop(begun (F := F) c 0 ∗ ∃ W, owes (c : Thread nD τ) (rows c 0) W) := by
  have h1 : (bigSep Finset.univ (barPay c) : sProp 𝕄)
      = bigSep Finset.univ fun b : Fin 16 => bigSep Finset.univ fun s : Fin 3 => iprop(slotAny (pk c s) c b ∗ reached ER (recvCell (pk c s) c b) 0) := by
    rw [BI.bigSep_univ_comm]
    refine bigSep_congr fun s _ => ?_
    unfold barPay
    rw [← bigSep_sep']
  have h3 (b : Fin 16) : iprop((bigSep Finset.univ fun s : Fin 3 => iprop(slotAny (pk c s) c b ∗ reached ER (recvCell (pk c s) c b) 0))
      ∗ slotAny c c b ∗ bigSep Finset.univ fun s : Fin 3 => tok c s b) ⊢ (if b.val < 0 then sent c b else todo c b : sProp 𝕄) := by
    have h4 (s : Fin 3) : iprop((slotAny (pk c s) c b ∗ reached ER (recvCell (pk c s) c b) 0) ∗ tok c s b) ⊢ (fuel c s b : sProp 𝕄) := by
      unfold tok fuel
      iintro ⟨⟨H1, H2⟩, H3, H4, H5⟩
      isplitl [H1]; · iexact H1
      isplitl [H2]; · iexact H2
      isplitl [H3]; · iexact H3
      isplitl [H4]; · iexact H4
      iexact H5
    have h5 : iprop((bigSep Finset.univ fun s : Fin 3 => iprop(slotAny (pk c s) c b ∗ reached ER (recvCell (pk c s) c b) 0)) ∗ bigSep Finset.univ fun s : Fin 3 => tok c s b)
        ⊢ (bigSep Finset.univ fun s : Fin 3 => fuel c s b : sProp 𝕄) := by
      rw [← bigSep_sep']
      exact bigSep_mono fun s _ => h4 s
    rw [if_neg (Nat.not_lt_zero _)]
    unfold todo
    iintro ⟨H1, Hs, H2⟩
    isplitl [Hs]; · iexact Hs
    iapply h5
    isplitl [H1]; · iexact H1
    iexact H2
  have h2 : iprop((bigSep Finset.univ (barPay c) : sProp 𝕄) ∗ (bigSep Finset.univ fun b : Fin 16 => slotAny c c b) ∗ bigSep Finset.univ fun b : Fin 16 => bigSep Finset.univ fun s : Fin 3 => tok c s b)
      ⊢ (bigSep Finset.univ fun b : Fin 16 => if b.val < 0 then sent c b else todo c b) := by
    rw [h1, ← bigSep_sep', ← bigSep_sep']
    exact bigSep_mono fun b _ => h3 b
  unfold barOut begun
  iintro ⟨⟨Hv, Hp, HO⟩, Hs, Ht⟩
  isplitl [Hv Hp Hs Ht]
  · isplitl [Hv]; · iexact Hv
    iapply h2
    isplitl [Hp]; · iexact Hp
    isplitl [Hs]; · iexact Hs
    iexact Ht
  · iexact HO

/-! ## The program of a point -/

section Body
variable (i : grid0.Coords) (a1 : Memref sig .tc .vmem S1x1x16x64 .bf16) (h1 : a1.IsWhole) (a2 : Memref sig .tc .vmem S1x16x64x1024 .bf16) (h2 : a2.IsWhole)
  (a3 : Memref sig .tc .vmem S1x16x64x1024 .bf16) (h3 : a3.IsWhole) (a4 : Memref sig .tc .vmem S16x1x16x64 .f32) (h4 : a4.IsWhole) (h5 : gM.IsWhole)

/-- The three input blocks, as staged. -/
def staged (c : Dev nD) (a1 : Memref sig .tc .vmem S1x1x16x64 .bf16) (a2 a3 : Memref sig .tc .vmem S1x16x64x1024 .bf16)
    (X1 : S1x1x16x64.Idx → Elt F .bf16) (X2 X3 : S1x16x64x1024.Idx → Elt F .bf16) : sProp 𝕄 :=
  iprop(owns (c : Thread nD τ) a1 fullShare X1 ∗ owns (c : Thread nD τ) a2 fullShare X2 ∗ owns (c : Thread nD τ) a3 fullShare X3)

variable (X1 : S1x1x16x64.Idx → Elt F .bf16) (X2 X3 : S1x16x64x1024.Idx → Elt F .bf16)

/-- The program asks which device it runs on. -/
theorem wp_which {α : Type} (k : Dev nD → Prog (TpuEff nD τ sig (Elt F) Λ₀ .tc) α) (Q : α → sProp 𝕄) :
    wp frame (wpE (defs₀ (F := F)) 𝒱₀ c none) Set.univ (Prog.lift .deviceId >>= k) Q = wp frame (wpE (defs₀ (F := F)) 𝒱₀ c none) Set.univ (k c) Q := wp_deviceId ..

/-- The three loads of the input blocks. -/
theorem loads_run {α : Type} (k : (S1x1x16x64.Idx → Elt F .bf16) → (S1x16x64x1024.Idx → Elt F .bf16) → (S1x16x64x1024.Idx → Elt F .bf16) → Prog (TpuEff nD τ sig (Elt F) Λ₀ .tc) α)
    {hl1 hl2 hl3} (Q : α → sProp 𝕄) :
    iprop(staged c a1 a2 a3 X1 X2 X3 ∗ (staged c a1 a2 a3 X1 X2 X3 -∗ wp frame (wpE (defs₀ (F := F)) 𝒱₀ c none) Set.univ (k X1 X2 X3) Q))
      ⊢ wp frame (wpE (defs₀ (F := F)) 𝒱₀ c none) Set.univ
        (Prog.lift (.load a1 (Rect.unit (s := S1x1x16x64) ![0, 0, 0, 0] S1x1x16x64.size inb_S1x1x16x64_S1x1x16x64_0_0_0_0).toLoadRect hl1) >>= fun v6 =>
          Prog.lift (.load a2 (Rect.unit (s := S1x16x64x1024) ![0, 0, 0, 0] S1x16x64x1024.size inb_S1x16x64x1024_S1x16x64x1024_0_0_0_0).toLoadRect hl2) >>= fun v8 =>
            Prog.lift (.load a3 (Rect.unit (s := S1x16x64x1024) ![0, 0, 0, 0] S1x16x64x1024.size inb_S1x16x64x1024_S1x16x64x1024_0_0_0_0).toLoadRect hl3) >>= fun v11 => k v6 v8 v11) Q := by
  unfold staged
  iintro ⟨⟨H1, H2, H3⟩, Hk⟩
  iapply (load_stage a1 ![0, 0, 0, 0] (by decide) inb_S1x1x16x64_S1x1x16x64_0_0_0_0)
  isplitl [H1]; · iexact H1
  iintro H1
  iapply (load_stage a2 ![0, 0, 0, 0] (by decide) inb_S1x16x64x1024_S1x16x64x1024_0_0_0_0)
  isplitl [H2]; · iexact H2
  iintro H2
  iapply (load_stage a3 ![0, 0, 0, 0] (by decide) inb_S1x16x64x1024_S1x16x64x1024_0_0_0_0)
  isplitl [H3]; · iexact H3
  iintro H3
  iapply Hk
  isplitl [H1]; · iexact H1
  isplitl [H2]; · iexact H2
  iexact H3

/-- At a point other than the first the blocks are loaded. -/
theorem part35_later (h : ¬ k0_cond1 i = 1#1) (Q) :
    iprop(staged c a1 a2 a3 X1 X2 X3 ∗ (∀ v2, staged c a1 a2 a3 X1 X2 X3 -∗ Q ⟨BitVec.ofNat 32 (i 0).val, c, v2, k0_pay4 X1, k0_pay5 X2, k0_pay6 X3, io, k0_pay7, k0_pay8, k0_pay9, k0_pay10⟩))
      ⊢ wp frame (wpE (defs₀ (F := F)) 𝒱₀ c none) Set.univ (k0_part35 (F := F) i a1 h1 a2 h2 a3 h3 a4 h4 gM h5 cc0_scratch1 cc0_scratch2) Q := by
  rw [k0_part35_eq_skeleton]; unfold k0_part35_skel
  rw [wp_which]
  dsimp only
  rw [dif_neg h]
  iintro ⟨Hs, HQ⟩
  iapply (loads_run a1 a2 a3 X1 X2 X3)
  isplitl [Hs]; · iexact Hs
  iintro Hs
  rw [wp_pure]
  imodintro
  iapply HQ
  iexact Hs

/-- At the first the barrier comes before. -/
theorem part35_first (h : k0_cond1 i = 1#1) (Q) :
    iprop(always m K c ∗ first c ∗ (∃ W, owes (c : Thread nD τ) (rows c 0 + barOwed c) W) ∗ staged c a1 a2 a3 X1 X2 X3
        ∗ (∀ v2, begun c 0 -∗ (∃ W, owes (c : Thread nD τ) (rows c 0) W) -∗ staged c a1 a2 a3 X1 X2 X3
          -∗ Q ⟨BitVec.ofNat 32 (i 0).val, c, v2, k0_pay4 X1, k0_pay5 X2, k0_pay6 X3, io, k0_pay7, k0_pay8, k0_pay9, k0_pay10⟩))
      ⊢ wp frame (wpE (defs₀ (F := F)) 𝒱₀ c none) Set.univ (k0_part35 (F := F) i a1 h1 a2 h2 a3 h3 a4 h4 gM h5 cc0_scratch1 cc0_scratch2) Q := by
  rw [k0_part35_eq_skeleton]; unfold k0_part35_skel
  rw [wp_which]
  dsimp only
  rw [dif_pos h]
  unfold first
  iintro ⟨#HA, ⟨⟨Hh, Hat, Hc⟩, Hsl, Ht⟩, HO, Hs, HQ⟩
  ihave #HB := always_bar $$ HA
  icases HB with ⟨#HI, #Hlev⟩
  iapply (barrier_run (m := m) (K := K) i h)
  isplitr; · iexact HI
  isplitr; · iexact Hlev
  isplitl [Hh Hat Hc HO]
  · unfold barIn
    isplitl [Hh]; · iexact Hh
    isplitl [Hat]; · iexact Hat
    isplitl [Hc]; · iexact Hc
    iexact HO
  iintro Ho
  ihave Hb := begin $$ [Ho Hsl Ht]
  · isplitl [Ho]; · iexact Ho
    isplitl [Hsl]; · iexact Hsl
    iexact Ht
  icases Hb with ⟨Hb, HO⟩
  iapply (loads_run a1 a2 a3 X1 X2 X3)
  isplitl [Hs]; · iexact Hs
  iintro Hs
  rw [wp_pure]
  imodintro
  iapply HQ $$ Hb HO Hs

/-- The copies of a point move it from to-do to sent. -/
theorem begun_step (b : Fin 16) : begun (F := F) c b.val ⊢ iprop(todo c b ∗ (sent c b -∗ begun c (b.val + 1))) := by
  have h := bigSep_univ_update (Φ := fun y : Fin 16 => if y.val < b.val then sent (F := F) c y else todo c y)
    (Ψ := fun y : Fin 16 => if y.val < b.val + 1 then sent c y else todo c y) b (fun j hj => by
      have : j.val ≠ b.val := fun h => hj (Fin.ext h)
      by_cases h : j.val < b.val
      · rw [if_pos h, if_pos (by omega)]
      · rw [if_neg h, if_neg (by omega)])
  rw [if_neg (lt_irrefl _), if_pos (Nat.lt_succ_self _)] at h
  unfold begun
  iintro ⟨Hv, H⟩
  ihave H := h $$ H
  icases H with ⟨Ht, Hk⟩
  isplitl [Ht]; · iexact Ht
  iintro Hs
  isplitl [Hv]; · iexact Hv
  iapply Hk $$ Hs

/-- All sent: ready to wait. -/
theorem begun_end : iprop(begun c 16 ∗ carried c ∗ ∃ W, owes (c : Thread nD τ) (0 : CellTallies nD τ sig Unit) W) ⊢ iprop(semVal (barCell c) 0 ∗ waited (F := F) m c 0) := by
  have h : (bigSep Finset.univ fun b : Fin 16 => if b.val < 16 then sent (F := F) c b else todo c b) = (bigSep Finset.univ fun b : Fin 16 => sent c b : sProp 𝕄) :=
    bigSep_congr fun b _ => if_pos b.isLt
  unfold begun carried
  rw [h]
  iintro ⟨⟨Hv, Hs⟩, ⟨Ha, Hc⟩, HO⟩
  isplitl [Hv]; · iexact Hv
  iapply prepare
  isplitl [Ha]; · iexact Ha
  isplitl [Hs]; · iexact Hs
  isplitl [Hc]; · iexact Hc
  iexact HO

/-- The whole scratch, its contents forgotten. -/
theorem gathered_end : iprop(semVal (barCell c) 0 ∗ gathered m c) ⊢ iprop(ended c ∗ ∃ W, owes (c : Thread nD τ) (0 : CellTallies nD τ sig Unit) W) := by
  unfold gathered ended ownsSat
  iintro ⟨Hb, Hx, ⟨%f, -, Hf⟩, HO⟩
  isplitr [HO]
  · isplitl [Hb]; · iexact Hb
    isplitl [Hx]; · iexact Hx
    iexists f
    isplitr; · ipureintro; trivial
    iexact Hf
  · iexact HO

/-- What follows the loads of point `b`: its copies, and at the last point the waits and the result. -/
theorem rest_run (b : Fin 16) (hi : (i 0).val = b.val) (hl : k0_cond2 i = 1#1 ↔ b.val = 15) (x v2 : BitVec 32) (X4 : S16x1x16x64.Idx → Elt F .f32) (Q : PUnit → sProp 𝕄)
    {h₁ h₂ h₃ hl₄ hs₄ hm₄} :
    iprop(always m K c ∗ carried c ∗ begun c b.val ∗ (∃ W, owes (c : Thread nD τ) (rows c b.val) W) ∗ owns (c : Thread nD τ) a4 fullShare X4
        ∗ (inner m c (b.val + 1) -∗ (∃ W, owes (c : Thread nD τ) (rows c (b.val + 1)) W) -∗ owns (c : Thread nD τ) a4 fullShare (if b.val = 15 then res m else X4) -∗ Q ⟨⟩))
      ⊢ wp frame (wpE (defs₀ (F := F)) 𝒱₀ c none) Set.univ
          (k0_part36 (F := F) i a1 h1 a2 h2 a3 h3 a4 h4 gM h5 cc0_scratch1 cc0_scratch2 x c v2 (qB m c b) (kB m c b) (vB m c b) io k0_pay7 k0_pay8 k0_pay9 k0_pay10
            >>= fun v74 => k0_part37 (F := F) i a1 h1 a2 h2 a3 h3 a4 h4 gM h5 cc0_scratch1 cc0_scratch2 c v2 v74
            >>= fun _ => Prog.lift (.enqueueDma ((gM.slice (Rect.unit (s := S4x16x16x128) (k0_off6 i c) S1x1x16x128.size (k0_off6_inb i c)) (fun _ => rfl)).squeeze S16x128 squeezes_S1x1x16x128_S16x128)
              (.remote (Dev.tc (⟨k0_dev6 c, k0_dev6_lt c⟩ : Dev nD)) ((gM.slice (Rect.unit (s := S4x16x16x128) (k0_off6 i c) S1x1x16x128.size (k0_off6_inb i c)) (fun _ => rfl)).squeeze S16x128 squeezes_S1x1x16x128_S16x128)
                (.dma ((cc0_scratch1.slice (Rect.unit (s := S3x16) (k0_off8 i) S1x1.size (k0_off8_inb i))).squeeze S_ squeezes_S1x1_S_).sem))
              (.dma ((cc0_scratch2.slice (Rect.unit (s := S4x16) (k0_off5 i c) S1x1.size (k0_off5_inb i c))).squeeze S_ squeezes_S1x1_S_).sem) h₁ h₂ h₃)
            >>= fun _ => if hc : k0_cond2 i = 1#1 then
                k0_part34 (F := F) i a1 h1 a2 h2 a3 h3 a4 h4 gM h5 cc0_scratch1 cc0_scratch2 c v2 hc >>= fun v906 =>
                  Prog.lift (.load a4 (Rect.unit (s := S16x1x16x64) ![0, 0, 0, 0] S16x1x16x64.size inb_S16x1x16x64_S16x1x16x64_0_0_0_0).toLoadRect hl₄) >>= fun _ =>
                    Prog.lift (.store a4 (Rect.unit (s := S16x1x16x64) ![0, 0, 0, 0] S16x1x16x64.size inb_S16x1x16x64_S16x1x16x64_0_0_0_0) v906 Finset.univ hs₄ hm₄) >>= fun _ => pure ⟨⟩
              else pure ⟨⟩) Q := by
  iintro ⟨#HA, Hca, Hb, ⟨%W, HO⟩, H4, HQ⟩
  ihave Hb := (begun_step b) $$ Hb
  icases Hb with ⟨Ht, Hb⟩
  unfold todo
  icases Ht with ⟨Hsl, Hf⟩
  ihave #HR := (always_row b) $$ HA
  iapply (middle_run (b := b) (m := m) (K := K) i a1 h1 a2 h2 a3 h3 a4 h4 h5 hi x v2 W)
  isplitr; · iexact HR
  isplitl [Hsl]; · iexact Hsl
  isplitl [Hf]; · iexact Hf
  isplitl [HO]; · iexact HO
  iintro Hs HO
  ihave Hb := Hb $$ Hs
  by_cases hb : b.val = 15
  · have hcond := hl.2 hb
    have h16 : b.val + 1 = 16 := by omega
    rw [dif_pos hcond, if_pos hb, h16, rows_last, inner_last, wp_bind]
    ihave Hw := (begun_end (m := m)) $$ [Hb Hca HO]
    · isplitl [Hb]; · iexact Hb
      isplitl [Hca]; · iexact Hca
      iexists _; iexact HO
    icases Hw with ⟨Hv, Hw⟩
    ihave #HX := always_x $$ HA
    iapply (part34_run (m := m) (K := K) i a1 h1 a2 h2 a3 h3 a4 h4 h5 v2 hcond _)
    isplitr; · iexact HX
    isplitl [Hw]; · iexact Hw
    iintro %p ⟨%hp, Hg⟩
    subst hp
    iapply (load_stage a4 ![0, 0, 0, 0] (by decide) inb_S16x1x16x64_S16x1x16x64_0_0_0_0 X4)
    isplitl [H4]; · iexact H4
    iintro H4
    iapply (store_stage a4 ![0, 0, 0, 0] (by decide) inb_S16x1x16x64_S16x1x16x64_0_0_0_0 X4 (res m))
    isplitl [H4]; · iexact H4
    iintro H4
    rw [wp_pure]
    ihave He := gathered_end $$ [Hv Hg]
    · isplitl [Hv]; · iexact Hv
      iexact Hg
    icases He with ⟨He, HO⟩
    imodintro
    iapply HQ $$ He HO H4
  · have hb' : b.val + 1 < 16 := by have := b.isLt; omega
    rw [dif_neg (fun h => hb (hl.1 h)), if_neg hb, inner_later _ (Nat.succ_ne_zero _) hb', wp_pure]
    imodintro
    iapply HQ $$ [Hca Hb] [HO] H4
    · iexists K
      isplitr; · iexact HA
      isplitl [Hca]; · iexact Hca
      iexact Hb
    · iexists W; iexact HO

/-- Point `b`. -/
theorem body_run (b : Fin 16) (hi : (i 0).val = b.val) (hz : k0_cond1 i = 1#1 ↔ b.val = 0) (hl : k0_cond2 i = 1#1 ↔ b.val = 15) (X4 : S16x1x16x64.Idx → Elt F .f32) (Q : PUnit → sProp 𝕄) :
    iprop(inner m c b.val ∗ (∃ W, owes (c : Thread nD τ) (owed c b.val) W) ∗ staged c a1 a2 a3 (iblk m c 0 (pt b)) (iblk m c 1 (pt b)) (iblk m c 2 (pt b)) ∗ owns (c : Thread nD τ) a4 fullShare X4
        ∗ (inner m c (b.val + 1) -∗ (∃ W, owes (c : Thread nD τ) (owed c (b.val + 1)) W) -∗ staged c a1 a2 a3 (iblk m c 0 (pt b)) (iblk m c 1 (pt b)) (iblk m c 2 (pt b))
          -∗ owns (c : Thread nD τ) a4 fullShare (if b.val = 15 then res m else X4) -∗ Q ⟨⟩))
      ⊢ wp frame (wpE (defs₀ (F := F)) 𝒱₀ c none) Set.univ (cc0_body (F := F) i a1 h1 a2 h2 a3 h3 a4 h4 gM h5 cc0_scratch1 cc0_scratch2) Q := by
  rw [cc0_body_eq_skeleton]; unfold cc0_body_skel
  rw [wp_bind, show owed c (b.val + 1) = rows c (b.val + 1) from by rw [owed_eq, if_neg (Nat.succ_ne_zero _), add_zero]]
  by_cases hb : b.val = 0
  · rw [hb, inner_first, owed_eq, if_pos rfl]
    iintro ⟨⟨%K, #HA, Hca, Hf⟩, HO, Hst, H4, HQ⟩
    iapply (part35_first (m := m) (K := K) i a1 h1 a2 h2 a3 h3 a4 h4 h5 _ _ _ (hz.2 hb))
    isplitr; · iexact HA
    isplitl [Hf]; · iexact Hf
    isplitl [HO]; · iexact HO
    isplitl [Hst]; · iexact Hst
    iintro %v2 Hb HO Hst
    iapply (rest_run (m := m) (K := K) i a1 h1 a2 h2 a3 h3 a4 h4 h5 b hi hl _ v2 X4)
    isplitr; · iexact HA
    isplitl [Hca]; · iexact Hca
    rw [hb]
    isplitl [Hb]; · iexact Hb
    isplitl [HO]; · iexact HO
    isplitl [H4]; · iexact H4
    iintro Hn HO H4
    iapply HQ $$ Hn HO Hst H4
  · rw [inner_later _ hb b.isLt, owed_eq, if_neg hb, add_zero]
    iintro ⟨⟨%K, #HA, Hca, Hb⟩, HO, Hst, H4, HQ⟩
    iapply (part35_later i a1 h1 a2 h2 a3 h3 a4 h4 h5 _ _ _ (fun h => hb (hz.1 h)))
    isplitl [Hst]; · iexact Hst
    iintro %v2 Hst
    iapply (rest_run (m := m) (K := K) i a1 h1 a2 h2 a3 h3 a4 h4 h5 b hi hl _ v2 X4)
    isplitr; · iexact HA
    isplitl [Hca]; · iexact Hca
    isplitl [Hb]; · iexact Hb
    isplitl [HO]; · iexact HO
    isplitl [H4]; · iexact H4
    iintro Hn HO H4
    iapply HQ $$ Hn HO Hst H4
end Body

end Cert.KernelIdeal.Talk
-- ==== Proof.Data.lean ====
/- The pipeline's data: what each window's staging buffer holds after a point, what passes between points, and that the body keeps to it. -/
module

public import proofs.«01_k».proof.Proof.Body
public import proofs.«01_k».proof.Proof.Gen.KernelIdeal.Frame

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Idealize.ShloMosaic.ValueIdx

variable {F : FTy → Type} [FloatOps F]

local notation "𝕄" => MT nD τ sig Unit (Elt F) ℕ UU ℕ

variable {m : (ℓ : Loc nD τ sig) → Buf (Elt F) ℓ} {K : GSem nD τ sig → ℕ} {c : Dev nD}

/-- The point's number as a batch entry. -/
def bt (t : Fin cfg0.N) : Fin 16 := ⟨t.val, lt_of_lt_of_eq t.isLt N_0⟩
theorem coord_val (t : Fin cfg0.N) : (grid0.coords t 0).val = (bt t).val := by revert t; decide +kernel
theorem cond1_iff (t : Fin cfg0.N) : k0_cond1 (grid0.coords t) = 1#1 ↔ (bt t).val = 0 := by revert t; decide +kernel
theorem cond2_iff (t : Fin cfg0.N) : k0_cond2 (grid0.coords t) = 1#1 ↔ (bt t).val = 15 := by revert t; decide +kernel

theorem flush_iff (t : Fin cfg0.N) : (cfg0.win 3).flush t = true ↔ (bt t).val = 15 := by
  rw [flush0_3 t, show t.val = (bt t).val from rfl, Nat.mod_eq_of_lt (bt t).isLt]
theorem idle3 (t : Fin cfg0.N) : cfg0.idle 3 (cfg0.grid.coords t) = true ↔ (bt t).val ≠ 15 := by
  change (!(k0_cond2 (grid0.coords t) == 1#1)) = true ↔ ¬ (bt t).val = 15
  rw [← cond2_iff t]; simp

variable (m)

/-- The inputs' blocks stay, the output's block is the result at the last point. -/
def dat0 (c : Dev nD) : Dat τ (Elt F) Unit ℕ UU ℕ cfg0 c where
  A w := V m c (Pipeline.arrRef spec0 w)
  after w t := match w with
    | 0 => iblk m c 0 t
    | 1 => iblk m c 1 t
    | 2 => iblk m c 2 t
    | 3 => res m
    | ⟨_ + 4, h⟩ => absurd h (Nat.not_lt.2 (Nat.le_add_left _ _))
  Φ t := iprop(rests c ∗ inner m c t.val)
  q _ := fullShare
  owed t := owed c t.val

theorem before_in (c : Dev nD) (t : Fin cfg0.N) (d0 d1 d2) : (dat0 m c).before 0 t d0 = iblk m c 0 t ∧ (dat0 m c).before 1 t d1 = iblk m c 1 t ∧ (dat0 m c).before 2 t d2 = iblk m c 2 t :=
  ⟨((dat0 m c).before_in_eq_fetched 0 rfl (fun _ => rfl) (fun _ _ _ => rfl) (fun _ => rfl) t d0).trans rfl,
    ((dat0 m c).before_in_eq_fetched 1 rfl (fun _ => rfl) (fun _ _ _ => rfl) (fun _ => rfl) t d1).trans rfl,
    ((dat0 m c).before_in_eq_fetched 2 rfl (fun _ => rfl) (fun _ _ _ => rfl) (fun _ => rfl) t d2).trans rfl⟩

/-- What is owed, between points, as the pipeline records it. -/
theorem owes_in (c : Dev nD) (t : Fin (cfg0.N + 1)) : iprop(∃ W, owes (c : Thread nD τ) (owed c t.val) W) ⊢ ((dat0 m c).owesAt () t : sProp 𝕄) := by
  unfold Dat.owesAt Pipeline.owesWithin Dat.bound
  rw [show (dat0 m c).owed t = owed c t.val from rfl, show (dat0 m c).recorded t = Set.univ from rfl]
  iintro ⟨%W, HO⟩
  iexists W
  isplitr; · ipureintro; exact fun _ _ => Or.inl trivial
  iexact HO
theorem owes_out (c : Dev nD) (t : Fin (cfg0.N + 1)) : ((dat0 m c).owesAt () t : sProp 𝕄) ⊢ iprop(∃ W, owes (c : Thread nD τ) (owed c t.val) W) := by
  unfold Dat.owesAt Pipeline.owesWithin
  rw [show (dat0 m c).owed t = owed c t.val from rfl]
  iintro ⟨%W, -, HO⟩
  iexists W
  iexact HO

/-- Every point's body takes what is held before it to what is held after it. -/
theorem body (c : Dev nD) : BodyObligation (dat0 m c) (defs₀ (F := F)) 𝒱₀ () Set.univ := fun t => by
  rw [bigSep_W0, bigSep_W0]
  rw [show (dat0 m c).Φ t.castSucc = iprop(rests c ∗ inner m c (bt t).val) from rfl, show (dat0 m c).Φ t.succ = iprop(rests c ∗ inner m c ((bt t).val + 1)) from rfl]
  dsimp only
  iintro ⟨⟨HR, HI⟩, HO, ⟨%d0, H0⟩, ⟨%d1, H1⟩, ⟨%d2, H2⟩, ⟨%d3, H3⟩⟩
  rw [(before_in m c t d0 d1 d2).1, (before_in m c t d0 d1 d2).2.1, (before_in m c t d0 d1 d2).2.2]
  iapply (body_run (m := m) (c := c) (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (Memref.isWhole_whole _) (bt t)
    (coord_val t) (cond1_iff t) (cond2_iff t) ((dat0 m c).before 3 t d3) _)
  isplitl [HI]; · iexact HI
  isplitl [HO]; · iapply (owes_out m c t.castSucc) $$ HO
  isplitl [H0 H1 H2]
  · unfold staged
    isplitl [H0]; · iexact H0
    isplitl [H1]; · iexact H1
    iexact H2
  isplitl [H3]; · iexact H3
  iintro HI HO Hst H3
  unfold staged
  icases Hst with ⟨H0, H1, H2⟩
  isplitl [HR HI]
  · isplitl [HR]; · iexact HR
    iexact HI
  isplitl [HO]; · iapply (owes_in m c t.succ); iexact HO
  isplitl [H0]; · iexact H0
  isplitl [H1]; · iexact H1
  isplitl [H2]; · iexact H2
  by_cases hb : (bt t).val = 15
  · rw [if_pos hb]
    have e : idle0 3 (grid0.coords t) = false := Bool.eq_false_iff.2 fun h => (idle3 t).1 h hb
    rw [e]
    iexact H3
  · rw [if_neg hb]
    have e : idle0 3 (grid0.coords t) = true := (idle3 t).2 hb
    have e' : (win0 3).flush t = false := Bool.eq_false_iff.2 fun h => hb ((flush_iff t).1 h)
    rw [e, e']
    iexists d3
    iexact H3
end Cert.KernelIdeal.Talk
-- ==== Proof.Region.lean ====
/- The kernel's region: its semaphores opened on entry and given back at zero, its scratch split into slots on entry and whole again after. -/
module

public import proofs.«01_k».proof.Proof.Data
public import Idealize.ShloMosaic.Lib.Pipeline.RegionTalk

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Idealize.ShloMosaic.ValueIdx

variable {F : FTy → Type} [FloatOps F]

local notation "𝕄" => MT nD τ sig Unit (Elt F) ℕ UU ℕ

variable {m : (ℓ : Loc nD τ sig) → Buf (Elt F) ℓ} {K : GSem nD τ sig → ℕ} {c : Dev nD}

/-! ## The kernel's own semaphores -/

/-- The send semaphores, then the receive semaphores. -/
def osem : (Fin 3 × Fin 16) ⊕ (Fin 4 × Fin 16) → SemLoc sig
  | .inl p => .dma (sendS p.1 p.2)
  | .inr p => .dma (recvS p.1 p.2)

theorem osem_scoped : ∀ k, (osem k).isScoped .tc = true := by
  rintro (⟨s, b⟩ | ⟨r, b⟩)
  · revert s b; decide +kernel
  · revert r b; decide +kernel
theorem osem_inj : Function.Injective osem := fun k k' h => by
  have h' := congrArg role h
  rcases k with ⟨s, b⟩ | ⟨r, b⟩ <;> rcases k' with ⟨s', b'⟩ | ⟨r', b'⟩ <;> unfold osem at h' <;> dsimp only at h' <;>
    simp only [role_send, role_recv, Role.send.injEq, Role.recv.injEq, reduceCtorEq] at h'
  · rw [h'.1, h'.2]
  · rw [h'.1, h'.2]
theorem stage_role : ∀ (w : Fin 4) (s : Fin (win0 w).nbuf), role (.dma ((win0 w).sem s)) = .none := by decide +kernel
theorem osem_role : ∀ k, role (osem k) ≠ .none := by
  rintro (⟨s, b⟩ | ⟨r, b⟩) <;> unfold osem <;> dsimp only
  · rw [role_send]; exact Role.noConfusion
  · rw [role_recv]; exact Role.noConfusion
theorem ownFacts : Pipeline.OwnSemFacts spec0 osem :=
  ⟨osem_scoped, osem_inj, fun k w s h => osem_role k ((congrArg role h).trans (stage_role w s))⟩

/-- The ninety-six cells waited on and the sixteen on which nothing lands are all the kernel's own. -/
theorem own_split (c : Dev nD) : (Pipeline.ownSems0 osem c : sProp 𝕄)
    = iprop((bigSep Finset.univ fun s : Fin 3 => bigSep Finset.univ fun b : Fin 16 => semVal (sendCell c s b) 0)
      ∗ (bigSep Finset.univ fun b : Fin 16 => semVal (recvCell c c b) 0)
      ∗ bigSep Finset.univ fun s : Fin 3 => bigSep Finset.univ fun b : Fin 16 => semVal (recvCell c (pk c s) b) 0) := by
  unfold Pipeline.ownSems0
  rw [BI.bigSep_univ_sum, BI.bigSep_univ_prod, BI.bigSep_univ_prod, bigSep_row c]
  rfl
/-- Over the waits, a family is one over the copies' two cells. -/
theorem over_x (c : Dev nD) (Φ : GSem nD τ sig → sProp 𝕄) : (bigSep Finset.univ fun x : Fin 96 => Φ (xcell c x))
    = iprop((bigSep Finset.univ fun b : Fin 16 => bigSep Finset.univ fun s : Fin 3 => Φ (sendCell c s b))
      ∗ bigSep Finset.univ fun b : Fin 16 => bigSep Finset.univ fun s : Fin 3 => Φ (recvCell c (pk c s) b)) := by
  rw [bigSep_x, ← bigSep_sep']
  refine bigSep_congr fun b _ => ?_
  rw [← bigSep_sep']
  exact bigSep_congr fun s _ => by rw [xcell_x0, xcell_x1]
theorem own_out (c : Dev nD) : (Pipeline.ownSems0 osem c : sProp 𝕄)
    ⊢ iprop((bigSep Finset.univ fun x : Fin 96 => semVal (xcell c x) 0) ∗ bigSep Finset.univ fun b : Fin 16 => semVal (recvCell c c b) 0) := by
  rw [own_split, over_x c fun g => semVal g 0, BI.bigSep_univ_comm, BI.bigSep_univ_comm (Φ := fun (s : Fin 3) (b : Fin 16) => (semVal (recvCell c (pk c s) b) 0 : sProp 𝕄))]
  iintro ⟨H1, H2, H3⟩
  isplitr [H2]
  · isplitl [H1]; · iexact H1
    iexact H3
  iexact H2
theorem own_in (c : Dev nD) : iprop((bigSep Finset.univ fun x : Fin 96 => semVal (xcell c x) 0) ∗ bigSep Finset.univ fun b : Fin 16 => semVal (recvCell c c b) 0)
    ⊢ (Pipeline.ownSems0 osem c : sProp 𝕄) := by
  rw [own_split, over_x c fun g => semVal g 0, BI.bigSep_univ_comm, BI.bigSep_univ_comm (Φ := fun (b : Fin 16) (s : Fin 3) => (semVal (recvCell c (pk c s) b) 0 : sProp 𝕄))]
  iintro ⟨⟨H1, H3⟩, H2⟩
  isplitl [H1]; · iexact H1
  isplitl [H2]; · iexact H2
  iexact H3

/-! ## Entering -/

variable (m)

/-- What the launch keeps for device `c`'s kernel: the invariants, -/
def known (K : GSem nD τ sig → ℕ) (c : Dev nD) : sProp 𝕄 :=
  iprop((xinvs m K c ∗ (bigSep Finset.univ fun b : Fin 16 => rowInvs m K c b) ∗ barInvs m K c) ∗ bigSep Finset.univ fun s : Fin 3 => reached ER (barCell (pk c s)) 0)
instance known_persistent (K : GSem nD τ sig → ℕ) (c : Dev nD) : BI.Persistent (known m K c) := by unfold known; infer_instance
/-- the tokens of the duties it pays, -/
def duties (c : Dev nD) : sProp 𝕄 :=
  iprop((bigSep Finset.univ fun s : Fin 3 => dutyTok ER (barCell (pk c s)) 0 s.rev)
    ∗ bigSep Finset.univ fun b : Fin 16 => bigSep Finset.univ fun s : Fin 3 => iprop(dutyTok ER (sendCell c s b) 0 0 ∗ dutyTok ER (recvCell (pk c s) c b) 0 0))
/-- and the credits of what it waits for from others. -/
def credits (c : Dev nD) : sProp 𝕄 :=
  iprop(cred (tallyAt (barCell c) () 3) ∗ bigSep Finset.univ fun b : Fin 16 => bigSep Finset.univ fun s : Fin 3 => cred (tallyAt (recvCell c (pk c s) b) () N))
def linear (c : Dev nD) : sProp 𝕄 :=
  iprop(atPos ER (barCell c) 0 ∅ 0 ∗ (bigSep Finset.univ fun x : Fin 96 => openTok ER (xcell c x)) ∗ duties c)
def Tk (c : Dev nD) : sProp 𝕄 := iprop((∃ K, known m K c ∗ linear c) ∗ credits c)
/-- After the cells are opened. -/
def marks (c : Dev nD) : sProp 𝕄 :=
  bigSep Finset.univ fun s : Fin 3 => iprop((bigSep Finset.univ fun b : Fin 16 => reached ER (recvCell c (pk c s) b) 0) ∗ dutyTok ER (barCell (pk c s)) 0 s.rev ∗ reached ER (barCell (pk c s)) 0)
def Xk (c : Dev nD) : sProp 𝕄 :=
  iprop((∃ K, always m K c) ∗ carried c ∗ marks c ∗ (atPos ER (barCell c) 0 ∅ 0 ∗ cred (tallyAt (barCell c) () 3))
    ∗ (bigSep Finset.univ fun b : Fin 16 => bigSep Finset.univ fun s : Fin 3 => tok c s b) ∗ bigSep Finset.univ fun b : Fin 16 => semVal (recvCell c c b) 0)

theorem cells_open (K : GSem nD τ sig → ℕ) (c : Dev nD) :
    iprop(xinvs m K c ∗ (bigSep Finset.univ fun x : Fin 96 => openTok ER (xcell c x)) ∗ bigSep Finset.univ fun x : Fin 96 => semVal (xcell c x) 0)
      ⊢ (|={Set.univ}=> iprop((bigSep Finset.univ fun x : Fin 96 => atPos ER (xcell c x) 0 ∅ 0) ∗ bigSep Finset.univ fun x : Fin 96 => reached ER (xcell c x) 0) : sProp 𝕄) := by
  unfold xinvs
  rw [← bigSep_sep', ← bigSep_sep', ← bigSep_sep']
  exact (bigSep_mono fun x _ => Rounds.cell_open ER (Rd m) (g := xcell c x) (Set.mem_univ (K (xcell c x)))).trans (bigSep_fupd _ _)

theorem hopen (c : Dev nD) : iprop(Tk m c ∗ Pipeline.ownSems0 osem c ∗ levAts L lv) ⊢ (|={Set.univ}=> Xk m c : sProp 𝕄) := by
  have hm : iprop((bigSep Finset.univ fun b : Fin 16 => bigSep Finset.univ fun s : Fin 3 => reached ER (recvCell c (pk c s) b) 0)
      ∗ (bigSep Finset.univ fun s : Fin 3 => dutyTok ER (barCell (pk c s)) 0 s.rev) ∗ bigSep Finset.univ fun s : Fin 3 => reached ER (barCell (pk c s)) 0) ⊢ (marks c : sProp 𝕄) := by
    unfold marks
    rw [BI.bigSep_univ_comm, ← bigSep_sep', ← bigSep_sep']
  have ht : iprop((bigSep Finset.univ fun b : Fin 16 => bigSep Finset.univ fun s : Fin 3 => iprop(dutyTok ER (sendCell c s b) 0 0 ∗ dutyTok ER (recvCell (pk c s) c b) 0 0))
      ∗ bigSep Finset.univ fun b : Fin 16 => bigSep Finset.univ fun s : Fin 3 => reached ER (sendCell c s b) 0)
      ⊢ (bigSep Finset.univ fun b : Fin 16 => bigSep Finset.univ fun s : Fin 3 => tok c s b : sProp 𝕄) := by
    have h (b : Fin 16) (s : Fin 3) : iprop((dutyTok ER (sendCell c s b) 0 0 ∗ dutyTok ER (recvCell (pk c s) c b) 0 0) ∗ reached ER (sendCell c s b) 0)
        ⊢ (tok c s b : sProp 𝕄) := by
      unfold tok
      iintro ⟨⟨H1, H2⟩, H3⟩
      isplitl [H1]; · iexact H1
      isplitl [H2]; · iexact H2
      iexact H3
    rw [← bigSep_sep']
    refine bigSep_mono fun b _ => ?_
    rw [← bigSep_sep']
    exact bigSep_mono fun s _ => h b s
  unfold Tk Xk linear duties credits known
  iintro ⟨⟨⟨%K, ⟨⟨#Hx, #Hr, #Hb⟩, #Hbr⟩, Ha, Ho, Hd1, Hd2⟩, Hc1, Hc2⟩, Hs, #Hl⟩
  ihave Hs' := (own_out c) $$ Hs
  icases Hs' with ⟨Hv, Hrest⟩
  imod (cells_open m K c) $$ [Ho Hv] with ⟨Hat, Hre⟩
  · isplitr; · iexact Hx
    isplitl [Ho]; · iexact Ho
    iexact Hv
  ihave Hre' := (Entails.of_eq (over_x c fun g => (reached ER g 0 : sProp 𝕄))) $$ Hre
  icases Hre' with ⟨Hrs, Hrr⟩
  imodintro
  isplitr
  · iexists K
    unfold always
    isplitr; · iexact Hx
    isplitr; · iexact Hr
    isplitr; · iexact Hb
    iexact Hl
  isplitl [Hat Hc2]
  · unfold carried
    isplitl [Hat]; · iexact Hat
    iexact Hc2
  isplitl [Hrr Hd1]
  · iapply hm
    isplitl [Hrr]; · iexact Hrr
    isplitl [Hd1]; · iexact Hd1
    iexact Hbr
  isplitl [Ha Hc1]
  · isplitl [Ha]; · iexact Ha
    iexact Hc1
  isplitl [Hd2 Hrs]
  · iapply ht
    isplitl [Hd2]; · iexact Hd2
    iexact Hrs
  iexact Hrest

/-- The scratch, split: the own row's slots, and each peer's row. -/
theorem scratch_split (c : Dev nD) : iprop(∃ f : Buf (Elt F) ((c : Thread nD τ).loc cc0_scratch0), ((c : Thread nD τ).loc cc0_scratch0) ↦{fullShare} f)
    ⊢ (iprop((bigSep Finset.univ fun b : Fin 16 => slotAny c c b) ∗ bigSep Finset.univ fun s : Fin 3 => bigSep Finset.univ fun b : Fin 16 => slotAny c (pk c s) b) : sProp 𝕄) := by
  have h0 : iprop(∃ f : Buf (Elt F) ((c : Thread nD τ).loc cc0_scratch0), ((c : Thread nD τ).loc cc0_scratch0) ↦{fullShare} f)
      ⊢ (ownsSat (c : Thread nD τ) gM fullShare (fun X => ∀ t : Fin 4 × Fin 16, (fun _ _ => True) t fun j => X ((slotR t.1 t.2).emb j)) : sProp 𝕄) := by
    iintro ⟨%f, H⟩
    iapply (ownsSat_intro (c : Thread nD τ) gM fullShare (X := f) (fun _ => trivial))
    rw [owns_whole]
    iexact H
  refine h0.trans ((ownsSat_rects (c : Thread nD τ) gM fullShare (fun t : Fin 4 × Fin 16 => slotR t.1 t.2) (fun _ _ => rfl) (fun t t' h => slots_disjoint h)
    (Finset.eq_univ_iff_forall.2 fun i => Finset.mem_biUnion.2 ((slots_cover i).imp fun t h => ⟨Finset.mem_univ t, h⟩)) (fun _ _ => True)).trans ?_)
  rw [BI.bigSep_univ_prod, bigSep_row c]
  exact .rfl

/-- The peer's row of slots and the marks are what the signal to it takes. -/
theorem hails (c : Dev nD) : iprop((bigSep Finset.univ fun s : Fin 3 => bigSep Finset.univ fun b : Fin 16 => slotAny c (pk c s) b) ∗ marks c)
    ⊢ (bigSep Finset.univ fun s : Fin 3 => hail c s : sProp 𝕄) := by
  have h (s : Fin 3) : iprop((bigSep Finset.univ fun b : Fin 16 => slotAny c (pk c s) b)
      ∗ (bigSep Finset.univ fun b : Fin 16 => reached ER (recvCell c (pk c s) b) 0) ∗ dutyTok ER (barCell (pk c s)) 0 s.rev ∗ reached ER (barCell (pk c s)) 0)
      ⊢ (hail c s : sProp 𝕄) := by
    unfold hail barPay
    rw [pk_rev]
    exact sep_assoc.2
  unfold marks
  rw [← bigSep_sep']
  exact bigSep_mono fun s _ => h s

theorem hin (c : Dev nD) : iprop(Pipeline.scopedRest spec0 c ∗ (∃ r, prngReg c r) ∗ StableHlo.held (c.tc : Thread nD τ) ∅ (fun b => StableHlo.after hostOps0 (fun b => m (c, b)) b) ∗ Xk m c)
    ⊢ (dat0 m c).Φ 0 := by
  rw [show (dat0 m c).Φ 0 = iprop(rests c ∗ inner m c 0) from rfl, scopedRest0_eq, inner_first]
  unfold Xk rests first
  iintro ⟨Hs, Hp, -, ⟨%K, #HA⟩, Hc, Hm, Hb, Ht, Hrest⟩
  ihave Hs' := (scratch_split c) $$ Hs
  icases Hs' with ⟨Hown, Hpeer⟩
  isplitl [Hp Hrest]
  · isplitl [Hp]; · iexact Hp
    iexact Hrest
  iexists K
  isplitr; · iexact HA
  isplitl [Hc]; · iexact Hc
  isplitl [Hpeer Hm Hb]
  · isplitl [Hpeer Hm]
    · iapply (hails c)
      isplitl [Hpeer]; · iexact Hpeer
      iexact Hm
    iexact Hb
  isplitl [Hown]; · iexact Hown
  iexact Ht

/-! ## Leaving -/

theorem scratch_whole (c : Dev nD) : (ownsSat (c : Thread nD τ) gM fullShare (fun _ => True) : sProp 𝕄)
    ⊢ iprop(∃ f : Buf (Elt F) ((c : Thread nD τ).loc cc0_scratch0), ((c : Thread nD τ).loc cc0_scratch0) ↦{fullShare} f) := by
  refine (ownsSat_elim (c : Thread nD τ) gM fullShare _).trans ?_
  iintro ⟨%X, -, H⟩
  ihave H' := (Entails.of_eq (owns_whole (c : Thread nD τ) cc0_scratch0 fullShare X)) $$ H
  iexists X
  iexact H'

theorem hout (c : Dev nD) (W' : Valuation τ sig (Elt F)) : (dat0 m c).Φ (Fin.last cfg0.N)
    ⊢ iprop(Pipeline.scopedRest spec0 c ∗ (∃ r, prngReg c r) ∗ StableHlo.held (c.tc : Thread nD τ) ∅ W' ∗ Pipeline.ownSems0 osem c ∗ semVal (barCell c) 0) := by
  rw [show (dat0 m c).Φ (Fin.last cfg0.N) = iprop(rests c ∗ inner m c 16) from rfl, scopedRest0_eq, inner_last]
  unfold rests ended
  iintro ⟨⟨Hp, Hrest⟩, Hb, Hx, Hs⟩
  isplitl [Hs]; · iapply (scratch_whole c) $$ Hs
  isplitl [Hp]; · iexact Hp
  isplitr
  · unfold StableHlo.held; rw [BI.bigSep_empty]; iempintro
  isplitl [Hx Hrest]
  · iapply (own_in c)
    isplitl [Hx]; · iexact Hx
    iexact Hrest
  iexact Hb

end Cert.KernelIdeal.Talk
-- ==== Proof.Run.lean ====
/- The whole run: what the launch deals out, the host's transposes, the kernel, and the memory at the end. -/
module

public import proofs.«01_k».proof.Proof.Region
public import Idealize.ShloMosaic.Lib.Pipeline.Value

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Idealize.ShloMosaic.ValueIdx

variable {F : FTy → Type} [FloatOps F]

local notation "𝕄" => MT nD τ sig Unit (Elt F) ℕ UU ℕ

variable {m : (ℓ : Loc nD τ sig) → Buf (Elt F) ℓ} {K : GSem nD τ sig → ℕ} {c : Dev nD}

variable (m)

/-! ## The arrays -/

/-- At launch, after the transposes, and after the kernel. -/
abbrev V₀ (c : Dev nD) : Valuation τ sig (Elt F) := fun b => m (c, b)
abbrev V₁ (c : Dev nD) : Valuation τ sig (Elt F) := StableHlo.after hostOps0 (V₀ m c)
abbrev V₂ (c : Dev nD) : Valuation τ sig (Elt F) := Function.update (V₁ m c) (Proc.devRef .tc main_v3) (res m)
theorem V₂_v3 (c : Dev nD) : V₂ m c main_v3 = res m := Function.update_self ..
theorem V₂_ne (c : Dev nD) (b : DevRef τ sig) (h : b ≠ Proc.devRef .tc main_v3) : V₂ m c b = V₁ m c b := Function.update_of_ne h ..

/-- The last point's write-back is the whole result. -/
theorem written (c : Dev nD) : (dat0 m c).arrAt 3 cfg0.N = res m := by
  have hl : (cfg0.win 3).flush (Fin.last 15) = true := (flush_iff (Fin.last 15)).2 rfl
  have hd : ∀ t t' : Fin cfg0.N, (cfg0.win 3).flush t = true → (cfg0.win 3).flush t' = true → t ≠ t' →
      Disjoint ((cfg0.win 3).blk t).view.set ((cfg0.win 3).blk t').view.set := fun t t' h h' hn =>
    absurd (Fin.ext (show t.val = t'.val from ((flush_iff t).1 h).trans ((flush_iff t').1 h').symm)) hn
  funext y
  have h := (dat0 m c).arrAt_emb_eq_flushed 3 hd (Fin.last 15) hl y
  have e : ((cfg0.win 3).blk (Fin.last 15)).view.emb y = y := by
    funext a
    exact Fin.ext (Pipeline.Window.rect_emb_val_of_index_zero win0_3 (Fin.last 15) a (by revert a; decide +kernel) y)
  rw [e] at h
  exact h

theorem Sr_sub : Pipeline.arrRefs (τ := τ) spec0 ⊆ Pipeline.ucRefs τ sig := by decide +kernel
abbrev Sr : Finset (DevRef τ sig) := Pipeline.ucRefs τ sig \ Pipeline.arrRefs (τ := τ) spec0
theorem v3_mem : Proc.devRef .tc main_v3 ∈ Pipeline.arrRefs (τ := τ) spec0 := by decide +kernel

/-! ## The two segments -/

abbrev adm : (p : Fin 1) → (pcfgs (F := F) p).Adm := fun q => (cfgs q).toPCfg_adm
def pdats : (p : Fin 1) → (c : Dev nD) → Dat τ (Elt F) Unit ℕ UU ℕ (Pipeline.pin (pcfgs (F := F)) adm p) c := fun _ c => dat0 m c

/-- What rides along the transposes. -/
def R (c : Dev nD) : sProp 𝕄 := iprop((∃ r, prngReg c r) ∗ Tk m c ∗ ∃ W, owes (c : Thread nD τ) (owed c 0) W)

def seg0 : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op (List.forall_iff_forall_mem.mp hostOps0_sub op h)) (fun op h => List.forall_iff_forall_mem.mp hostOps0_fresh op h) (V₀ m) (R m)

theorem stage_level (c : Dev nD) (w : Fin 4) (s : Fin (win0 w).nbuf) : lv ((c : Thread nD τ), .dma ((win0 w).sem s)) () ≤ 0 := by
  unfold lv; dsimp only; rw [stage_role w s]

theorem arr_last (c : Dev nD) (w : Fin 4) : (dat0 m c).arrAt w cfg0.N = V₂ m c (Proc.devRef .tc (Pipeline.arrRef spec0 w)) := by
  match w with
  | 0 => exact ((dat0 m c).arrAt_in 0 rfl _).trans (V₂_ne m c (Proc.devRef .tc main_arg0) (by decide)).symm
  | 1 => exact ((dat0 m c).arrAt_in 1 rfl _).trans (V₂_ne m c (Proc.devRef .tc main_v1) (by decide)).symm
  | 2 => exact ((dat0 m c).arrAt_in 2 rfl _).trans (V₂_ne m c (Proc.devRef .tc main_v2) (by decide)).symm
  | 3 => exact (written m c).trans (V₂_v3 m c).symm

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem ownFacts
    ∅ Sr (Finset.empty_subset _) launch0.toP rfl (fun c => (body m c).loose)
    (fun _ => 0) (fun c => owed c 0)
    (fun c => (zero_add _).symm) (fun c => by show owed c 16 = 0; rw [owed_eq, rows_last, if_neg (by decide), add_zero])
    (fun _ => rfl) (fun c w => by show (dat0 m c).share w = fullShare; match w with | 0 => rfl | 1 => rfl | 2 => rfl | 3 => rfl)
    (V₁ m) (V₂ m)
    (fun c b hb => V₂_ne m c b fun h => (Finset.mem_sdiff.1 (Finset.mem_sdiff.1 hb).1).2 (h ▸ v3_mem))
    (Tk m) (fun c => semVal (barCell c) 0) (Xk m) (fun c => semVal (barCell c) 0)
    (hopen m) (hin m) (fun c => hout m c (V₂ m c)) (fun c => by iintro H; imodintro; iexact H)
    (fun _ => 0)
    ⟨fun c w s => by rw [L_tc]; exact Finset.mem_singleton_self _, fun c w s => stage_level c w s, fun c t g i h => owed_pos (c := c) (t := t.val) h⟩
    (fun _ => iprop(emp))
    (fun c w => rfl) (fun c w => arr_last m c w)

theorem reg0_pre (c : Dev nD) : iprop(StableHlo.held (c : Thread nD τ) (Pipeline.ucRefs τ sig) (V₁ m c) ∗ R m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) Sr (V₁ m c) ∗ emp) ∗ Tk m c ∗ ∃ Wd, owes (c : Thread nD τ) (0 + owed c 0) Wd)
  rw [StableHlo.held_sub_split (c.tc : Thread nD τ) Sr_sub (V₁ m c), zero_add]
  unfold R
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem reg0_post (c : Dev nD) : (reg0 m).post c
    ⊢ iprop((StableHlo.held (c : Thread nD τ) (Pipeline.ucRefs τ sig) (V₂ m c) ∗ semVal (barCell c) 0) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) Sr (V₂ m c) ∗ emp) ∗ semVal (barCell c) 0 ∗ ∃ Wd, owes (c : Thread nD τ) (0 : CellTallies nD τ sig Unit) Wd) ⊢ _
  rw [StableHlo.held_sub_split (c : Thread nD τ) Sr_sub (V₂ m c)]
  iintro ⟨Ha, -, ⟨Hr, -⟩, Hb, HO⟩
  isplitr [HO]
  · isplitr [Hb]
    · isplitl [Ha]; · iexact Ha
      iexact Hr
    iexact Hb
  iexact HO

def segs : List (Pipeline.Seg (pcfgs (F := F)) adm (pdats m) () defs₀ 𝒱₀ L lv) := [.host (seg0 m), .region (reg0 m)]
theorem main_eq (c : Dev nD) : main (F := F) c = Pipeline.Seg.run (segs m) := main_segs adm (pdats m) () 𝒱₀ L lv (seg0 m) (reg0 m) rfl c

end Cert.KernelIdeal.Talk
-- ==== Proof.Start.lean ====
/- The launch: the cells' invariants made, the tokens and credits dealt to the devices that use them, and the run to its end. -/
module

public import proofs.«01_k».proof.Proof.Run

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Idealize.ShloMosaic.ValueIdx

variable {F : FTy → Type} [FloatOps F]

local notation "𝕄" => MT nD τ sig Unit (Elt F) ℕ UU ℕ

variable {m : (ℓ : Loc nD τ sig) → Buf (Elt F) ℓ} {K : GSem nD τ sig → ℕ} {c : Dev nD}

/-! ## Dealing around the ring -/

/-- A device and a step onwards, against the device reached and the step back. -/
def flip : Dev nD × Fin 3 ≃ Dev nD × Fin 3 where
  toFun p := (pk p.1 p.2, p.2.rev)
  invFun p := (pk p.1 p.2, p.2.rev)
  left_inv p := Prod.ext (pk_rev p.1 p.2) (Fin.rev_rev p.2)
  right_inv p := Prod.ext (pk_rev p.1 p.2) (Fin.rev_rev p.2)
theorem around (Φ : Dev nD → Fin 3 → sProp 𝕄) : (bigSep Finset.univ fun c : Dev nD => bigSep Finset.univ fun s : Fin 3 => Φ c s)
    = bigSep Finset.univ fun c : Dev nD => bigSep Finset.univ fun s : Fin 3 => Φ (pk c s) s.rev := by
  rw [← BI.bigSep_univ_prod (fun p : Dev nD × Fin 3 => Φ p.1 p.2), BI.bigSep_univ_equiv flip, BI.bigSep_univ_prod]
  rfl

/-! ## The cells and the tokens -/

theorem xsem_inj (c : Dev nD) : Function.Injective (xsem c) := fun x y h => by
  have h' := congrArg (fun k => role (.dma k)) h
  have hx := x.isLt; have hy := y.isLt
  unfold xsem at h'
  by_cases ex : x.val % 2 = 0 <;> by_cases ey : y.val % 2 = 0
  · rw [if_pos ex, if_pos ey] at h'
    simp only [role_send, Role.send.injEq] at h'
    have h1 := congrArg Fin.val h'.1; have h2 := congrArg Fin.val h'.2
    unfold xs at h1; unfold xb at h2; dsimp only at h1 h2
    exact Fin.ext (by omega)
  · rw [if_pos ex, if_neg ey] at h'
    simp only [role_send, role_recv, reduceCtorEq] at h'
  · rw [if_neg ex, if_pos ey] at h'
    simp only [role_send, role_recv, reduceCtorEq] at h'
  · rw [if_neg ex, if_neg ey] at h'
    simp only [role_recv, Role.recv.injEq] at h'
    have h1 := congrArg Fin.val (pk_inj c h'.1); have h2 := congrArg Fin.val h'.2
    unfold xs at h1; unfold xb at h2; dsimp only at h1 h2
    exact Fin.ext (by omega)

theorem reg_ne_dma (k : Sem sig) (k' : DmaSem sig) : (SemLoc.reg k : SemLoc sig) ≠ .dma k' := nofun
theorem bar_ne_dma (c c' : Dev nD) (k : DmaSem sig) : barCell c ≠ ((c' : Thread nD τ), .dma k) := fun h => reg_ne_dma _ _ (congrArg (fun g : GSem nD τ sig => g.2) h)

def barEmb : Dev nD ↪ GSem nD τ sig := ⟨fun c => barCell c, fun _ _ h => congrArg (fun g : GSem nD τ sig => g.1.1) h⟩
def xEmb : Dev nD × Fin 96 ↪ GSem nD τ sig := ⟨fun p => xcell p.1 p.2, fun p q h => by
  have h1 : p.1 = q.1 := congrArg (fun g : GSem nD τ sig => g.1.1) h
  have h2 : xsem p.1 p.2 = xsem q.1 q.2 := SemLoc.dma.inj (congrArg Prod.snd h)
  rw [h1] at h2
  exact Prod.ext h1 (xsem_inj q.1 h2)⟩
abbrev barCells : Finset (GSem nD τ sig) := Finset.univ.map barEmb
abbrev xCells : Finset (GSem nD τ sig) := Finset.univ.map xEmb

/-- Three tokens a barrier cell, one a cell of a copy. -/
def tokEmb : Dev nD × (Fin 3 ⊕ Fin 96) ↪ GSem nD τ sig × ℕ × Fin 3 :=
  ⟨fun p => match p.2 with | .inl d => (barCell p.1, 0, d) | .inr x => (xcell p.1 x, 0, 0), fun p q h => by
    obtain ⟨c, k⟩ := p; obtain ⟨c', k'⟩ := q
    rcases k with d | x <;> rcases k' with d' | x' <;> dsimp only at h
    · rw [show c = c' from congrArg (fun t : GSem nD τ sig × ℕ × Fin 3 => t.1.1.1) h, show d = d' from congrArg (fun t : GSem nD τ sig × ℕ × Fin 3 => t.2.2) h]
    · exact absurd (congrArg Prod.fst h) (bar_ne_dma c c' _)
    · exact absurd (congrArg Prod.fst h).symm (bar_ne_dma c' c _)
    · have e := xEmb.injective (a₁ := (c, x)) (a₂ := (c', x')) (congrArg Prod.fst h)
      rw [show c = c' from congrArg Prod.fst e, show x = x' from congrArg Prod.snd e]⟩
def toks : Finset (GSem nD τ sig × ℕ × Fin 3) := Finset.univ.map tokEmb

theorem cells_disjoint : Disjoint barCells xCells := by
  rw [Finset.disjoint_left]
  rintro g h₁ h₂
  obtain ⟨c, -, rfl⟩ := Finset.mem_map.1 h₁
  obtain ⟨p, -, h⟩ := Finset.mem_map.1 h₂
  exact bar_ne_dma c p.1 _ h.symm

theorem toks_dealt : (bigSep toks fun t => (dutyTok ER t.1 t.2.1 t.2.2 : sProp 𝕄)) = bigSep Finset.univ fun c : Dev nD => (duties c : sProp 𝕄) := by
  have h1 : (bigSep Finset.univ fun c : Dev nD => bigSep Finset.univ fun b : Fin 16 => bigSep Finset.univ fun s : Fin 3 => (dutyTok ER (recvCell c (pk c s) b) 0 0 : sProp 𝕄))
      = bigSep Finset.univ fun c : Dev nD => bigSep Finset.univ fun b : Fin 16 => bigSep Finset.univ fun s : Fin 3 => (dutyTok ER (recvCell (pk c s) c b) 0 0 : sProp 𝕄) := by
    rw [BI.bigSep_univ_comm, BI.bigSep_univ_comm (Φ := fun (c : Dev nD) (b : Fin 16) => bigSep Finset.univ fun s : Fin 3 => (dutyTok ER (recvCell (pk c s) c b) 0 0 : sProp 𝕄))]
    refine bigSep_congr fun b _ => ?_
    rw [around fun c s => (dutyTok ER (recvCell c (pk c s) b) 0 0 : sProp 𝕄)]
    exact bigSep_congr fun c _ => bigSep_congr fun s _ => by rw [pk_rev]
  have h2 : (bigSep Finset.univ fun c : Dev nD => (duties c : sProp 𝕄))
      = iprop((bigSep Finset.univ fun c : Dev nD => bigSep Finset.univ fun s : Fin 3 => dutyTok ER (barCell c) 0 s)
        ∗ (bigSep Finset.univ fun c : Dev nD => bigSep Finset.univ fun b : Fin 16 => bigSep Finset.univ fun s : Fin 3 => dutyTok ER (sendCell c s b) 0 0)
        ∗ bigSep Finset.univ fun c : Dev nD => bigSep Finset.univ fun b : Fin 16 => bigSep Finset.univ fun s : Fin 3 => dutyTok ER (recvCell c (pk c s) b) 0 0) := by
    rw [h1, around fun c s => (dutyTok ER (barCell c) 0 s : sProp 𝕄), ← bigSep_sep', ← bigSep_sep']
    refine bigSep_congr fun c _ => ?_
    unfold duties
    rw [← bigSep_sep']
    congr 1
    refine bigSep_congr fun b _ => ?_
    rw [bigSep_sep']
  rw [h2, ← bigSep_sep', ← bigSep_sep']
  unfold toks
  rw [bigSep_map, BI.bigSep_univ_prod]
  refine bigSep_congr fun c _ => ?_
  rw [BI.bigSep_univ_sum, ← over_x c fun g => (dutyTok ER g 0 0 : sProp 𝕄)]
  rfl

/-! ## The credits -/

/-- What the devices owe device `c`'s barrier at launch, -/
theorem due_bar (c : Dev nD) : ∑ d : Dev nD, owed d 0 (barCell c) () = 3 := by
  have h (d : Dev nD) : owed d 0 (barCell c) () = ∑ s : Fin 3, if d = pk c s.rev then 1 else 0 := by
    have h0 : rows d 0 (barCell c) () = 0 := by
      by_contra hn
      obtain ⟨c', r, b, e⟩ := rows_pos (Nat.pos_of_ne_zero hn)
      exact bar_ne_dma _ _ _ e
    rw [owed_eq, if_pos rfl, Pi.add_apply, Finsupp.add_apply, h0, zero_add]
    unfold barOwed
    rw [Finset.sum_apply, Finsupp.finsetSum_apply]
    refine Finset.sum_congr rfl fun s _ => ?_
    rw [tallyAt_apply]
    refine if_congr ⟨fun ⟨e, _⟩ => ?_, fun e => ⟨by rw [e, pk_rev'], rfl⟩⟩ rfl rfl
    have e' : c = pk d s := congrArg (fun g : GSem nD τ sig => g.1.1) e
    rw [e', pk_rev]
  rw [Finset.sum_congr rfl fun d _ => h d, Finset.sum_comm]
  simp only [Finset.sum_ite_eq', Finset.mem_univ, if_true]
  rfl

/-- and the cell a peer's batch entry lands at. -/
theorem due_recv (c : Dev nD) (s : Fin 3) (b : Fin 16) : ∑ d : Dev nD, owed d 0 (recvCell c (pk c s) b) () = N := by
  have h (d : Dev nD) : owed d 0 (recvCell c (pk c s) b) () = if d = pk c s then N else 0 := by
    have h0 : barOwed d (recvCell c (pk c s) b) () = 0 := by
      by_contra hn
      obtain ⟨c', e⟩ := barOwed_pos (Nat.pos_of_ne_zero hn)
      exact bar_ne_dma _ _ _ e.symm
    rw [owed_eq, if_pos rfl, Pi.add_apply, Finsupp.add_apply, h0, add_zero]
    unfold rows
    rw [Finset.sum_apply, Finsupp.finsetSum_apply]
    have h1 (b' : Fin 16) : (if 0 ≤ b'.val then rowOwed d b' else 0 : CellTallies nD τ sig Unit) (recvCell c (pk c s) b) ()
        = if b' = b then (if d = pk c s then N else 0) else 0 := by
      rw [if_pos (Nat.zero_le _)]
      unfold rowOwed
      rw [Finset.sum_apply, Finsupp.finsetSum_apply]
      have h2 (s' : Fin 3) : (tallyAt (recvCell (pk d s') d b') () N : CellTallies nD τ sig Unit) (recvCell c (pk c s) b) ()
          = if s' = s.rev then (if b' = b then (if d = pk c s then N else 0) else 0) else 0 := by
        rw [tallyAt_apply]
        by_cases e : recvCell c (pk c s) b = recvCell (pk d s') d b'
        · have e1 : c = pk d s' := congrArg (fun g : GSem nD τ sig => g.1.1) e
          have e2 := congrArg (fun g : GSem nD τ sig => role g.2) e
          simp only [role_recv, Role.recv.injEq] at e2
          have e3 : s' = s.rev := pk_inj d (by rw [← e1, ← e2.1, pk_rev])
          rw [if_pos ⟨e, rfl⟩, if_pos e3, if_pos e2.2.symm, if_pos e2.1.symm]
        · rw [if_neg fun h => e h.1]
          by_cases e3 : s' = s.rev
          · by_cases e4 : b' = b
            · by_cases e5 : d = pk c s
              · exact absurd (by rw [e3, e4, e5, pk_rev]) e
              · rw [if_pos e3, if_pos e4, if_neg e5]
            · rw [if_pos e3, if_neg e4]
          · rw [if_neg e3]
      rw [Finset.sum_congr rfl fun s' _ => h2 s', Finset.sum_ite_eq', if_pos (Finset.mem_univ _)]
    rw [Finset.sum_congr rfl fun b' _ => h1 b', Finset.sum_ite_eq', if_pos (Finset.mem_univ _)]
  rw [Finset.sum_congr rfl fun d _ => h d, Finset.sum_ite_eq', if_pos (Finset.mem_univ _)]

theorem credit_bar (c : Dev nD) :
    tallyOn (barCell c) (launchCredit (Pipeline.owing fun d => owed d 0) 0 (barCell c)) = (tallyAt (barCell c) () 3 : CellTallies nD τ sig Unit) := by
  unfold tallyAt
  refine congrArg _ (Finsupp.ext fun u => ?_)
  rw [Pipeline.launchCredit_owing, Finsupp.single_eq_same, due_bar]
theorem credit_recv (c : Dev nD) (s : Fin 3) (b : Fin 16) :
    tallyOn (recvCell c (pk c s) b) (launchCredit (Pipeline.owing fun d => owed d 0) 0 (recvCell c (pk c s) b)) = (tallyAt (recvCell c (pk c s) b) () N : CellTallies nD τ sig Unit) := by
  unfold tallyAt
  refine congrArg _ (Finsupp.ext fun u => ?_)
  rw [Pipeline.launchCredit_owing, Finsupp.single_eq_same, due_recv]

/-- The receive semaphores of the peers' rows. -/
def landEmb (c : Dev nD) : Fin 16 × Fin 3 ↪ SemLoc sig := ⟨fun p => .dma (recvS (pk c p.2) p.1), fun p q h => by
  have h' := congrArg role h
  simp only [role_recv, Role.recv.injEq] at h'
  exact Prod.ext h'.2 (pk_inj c h'.1)⟩

theorem credits_dealt (c : Dev nD) : (Pipeline.launchCred (fun d => owed d 0) c : sProp 𝕄) ⊢ credits c := by
  unfold Pipeline.launchCred credits
  rw [bigSep_univ_at _ (SemLoc.reg barS), credit_bar]
  refine sep_mono_right ?_
  refine (bigSep_subset (t := Finset.univ.map (landEmb c)) fun sm h => ?_).trans ?_
  · obtain ⟨p, -, rfl⟩ := Finset.mem_map.1 h
    exact Finset.mem_erase.2 ⟨fun e => reg_ne_dma _ _ e.symm, Finset.mem_univ _⟩
  · rw [bigSep_map, BI.bigSep_univ_prod]
    refine bigSep_mono fun b _ => bigSep_mono fun s _ => ?_
    rw [← credit_recv]
    exact BI.Entails.refl _

end Cert.KernelIdeal.Talk
-- ==== Proof.End.lean ====
/- The launch's global step, and the run of the whole program. -/
module

public import proofs.«01_k».proof.Proof.Start

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Idealize.ShloMosaic.ValueIdx

variable {F : FTy → Type} [FloatOps F]

local notation "𝕄" => MT nD τ sig Unit (Elt F) ℕ UU ℕ

variable {m : (ℓ : Loc nD τ sig) → Buf (Elt F) ℓ} {K : GSem nD τ sig → ℕ} {c : Dev nD}

variable (m)

/-! ## The launch -/

/-- What every device may consult: all the invariants, and that every barrier cell is at its first round. -/
def records (κ : GSem nD τ sig → ℕ) : sProp 𝕄 :=
  iprop((bigSep (barCells ∪ xCells) fun g => cellInv (ER (F := F)) (Rd (F := F) m) (κ g) g) ∗ bigSep barCells fun g => reached ER g 0)
instance records_persistent (κ : GSem nD τ sig → ℕ) : BI.Persistent (records m κ) := by unfold records; infer_instance

section
variable (κ : GSem nD τ sig → ℕ)
theorem records_x (c : Dev nD) (x : Fin 96) : records m κ ⊢ (cellInv (ER (F := F)) (Rd (F := F) m) (κ (xcell c x)) (xcell c x) : sProp 𝕄) := by
  have h : (bigSep (barCells ∪ xCells) fun g => (cellInv (ER (F := F)) (Rd (F := F) m) (κ g) g : sProp 𝕄)) ⊢ (cellInv (ER (F := F)) (Rd (F := F) m) (κ (xcell c x)) (xcell c x) : sProp 𝕄) :=
    bigSep_elim (Finset.mem_union_right _ (Finset.mem_map_of_mem xEmb (Finset.mem_univ (c, x))))
  unfold records
  iintro ⟨H, -⟩
  iapply h $$ H
theorem records_bar (c : Dev nD) : records m κ ⊢ (cellInv (ER (F := F)) (Rd (F := F) m) (κ (barCell c)) (barCell c) : sProp 𝕄) := by
  have h : (bigSep (barCells ∪ xCells) fun g => (cellInv (ER (F := F)) (Rd (F := F) m) (κ g) g : sProp 𝕄)) ⊢ (cellInv (ER (F := F)) (Rd (F := F) m) (κ (barCell c)) (barCell c) : sProp 𝕄) :=
    bigSep_elim (Finset.mem_union_left _ (Finset.mem_map_of_mem barEmb (Finset.mem_univ c)))
  unfold records
  iintro ⟨H, -⟩
  iapply h $$ H
theorem records_at (c : Dev nD) : records m κ ⊢ (reached ER (barCell c) 0 : sProp 𝕄) := by
  have h : (bigSep barCells fun g => (reached ER g 0 : sProp 𝕄)) ⊢ (reached ER (barCell c) 0 : sProp 𝕄) :=
    bigSep_elim (Finset.mem_map_of_mem barEmb (Finset.mem_univ c))
  unfold records
  iintro ⟨-, H⟩
  iapply h $$ H
/-- What is consulted once for each member of a family. -/
theorem each {ι : Type} [Fintype ι] [DecidableEq ι] {Φ : ι → sProp 𝕄} (h : ∀ i, records m κ ⊢ Φ i) : records m κ ⊢ bigSep Finset.univ Φ :=
  (bigSep_of_persistent Finset.univ (records m κ)).trans (bigSep_mono fun i _ => h i)

theorem records_known (c : Dev nD) : records m κ ⊢ known m κ c := by
  have hs (b : Fin 16) (s : Fin 3) : records m κ ⊢ iprop((cellInv (ER (F := F)) (Rd (F := F) m) (κ (sendCell c s b)) (sendCell c s b) : sProp 𝕄)
      ∗ (cellInv (ER (F := F)) (Rd (F := F) m) (κ (recvCell (pk c s) c b)) (recvCell (pk c s) c b) : sProp 𝕄)) := by
    have h1 := records_x m κ c (x0 b s)
    have h2 := records_x m κ (pk c s) (x1 b s.rev)
    rw [xcell_x0] at h1
    rw [xcell_x1, pk_rev] at h2
    iintro #H
    isplitr
    · iapply h1; iexact H
    · iapply h2; iexact H
  have h1 : records m κ ⊢ xinvs m κ c := each m κ fun x => records_x m κ c x
  have h2 : records m κ ⊢ (bigSep Finset.univ fun b : Fin 16 => rowInvs m κ c b : sProp 𝕄) := each m κ fun b => each m κ fun s => hs b s
  have h3 : records m κ ⊢ (bigSep Finset.univ fun s : Fin 3 => (cellInv (ER (F := F)) (Rd (F := F) m) (κ (barCell (pk c s))) (barCell (pk c s)) : sProp 𝕄)) :=
    each m κ fun s => records_bar m κ (pk c s)
  have h4 : records m κ ⊢ (bigSep Finset.univ fun s : Fin 3 => (reached ER (barCell (pk c s)) 0 : sProp 𝕄)) := each m κ fun s => records_at m κ (pk c s)
  unfold known barInvs
  iintro #H
  isplitr
  · isplitr; · iapply h1; iexact H
    isplitr; · iapply h2; iexact H
    isplitr; · iapply (records_bar m κ c); iexact H
    iapply h3; iexact H
  iapply h4; iexact H
end

/-- The launch element: the pipeline's and the protocol's. -/
def u₀ : UU :=
  (initOf (Pipeline.cells (Pipeline.pin (pcfgs (F := F)) adm) cellOf_inj) (Pipeline.launchToks (Pipeline.pin (pcfgs (F := F)) adm) cellOf_inj),
    launchOf barCells xCells toks)
/-- Everything on one device, until the global step. -/
def parked (X : sProp 𝕄) (c : Dev nD) : sProp 𝕄 := if c = 0 then X else iprop(emp)
theorem bigSep_parked (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp
abbrev seed : sProp 𝕄 := BI.own (ER (F := F) (launchOf barCells xCells toks))

abbrev T₀ (c : Dev nD) : sProp 𝕄 := iprop(StableHlo.held (c : Thread nD τ) (Pipeline.ucRefs τ sig) (V₀ m c) ∗ R m c)
abbrev Tₙ (c : Dev nD) : sProp 𝕄 := iprop(StableHlo.held (c : Thread nD τ) (Pipeline.ucRefs τ sig) (V₂ m c) ∗ semVal (barCell c) 0)

/-- Of a device's launch holdings, those that stay with it. -/
def kept (c : Dev nD) : sProp 𝕄 :=
  iprop(StableHlo.held (c : Thread nD τ) (Pipeline.ucRefs τ sig) (V₀ m c) ∗ credits c ∗ owes (c : Thread nD τ) (owed c 0) ∅ ∗ ∃ r, prngReg c r)

theorem T₀_of (κ : GSem nD τ sig → ℕ) (c : Dev nD) : iprop(records m κ ∗ (linear c ∗ kept m c)) ⊢ T₀ m c := by
  unfold kept T₀ R Tk
  iintro ⟨#HR, Hl, Hh, Hc, HO, Hp⟩
  isplitl [Hh]; · iexact Hh
  isplitl [Hp]; · iexact Hp
  isplitr [HO]
  · isplitl [Hl]
    · iexists κ
      isplitr; · iapply (records_known m κ c); iexact HR
      iexact Hl
    iexact Hc
  iexists ∅
  iexact HO

theorem bar_only : ∀ sm : SemLoc sig, sm.isScoped .tc = false → sm = .reg barS := by
  rintro (k | k) h
  · revert k; decide +kernel
  · revert k; decide +kernel
theorem counters (c : Dev nD) : (unscopedSems0 c : sProp 𝕄) = semVal (barCell c) 0 := by
  unfold unscopedSems0
  rw [show (Finset.univ.filter fun sm : SemLoc sig => ¬ sm.isScoped .tc) = {SemLoc.reg barS} from by
    ext sm
    rw [Finset.mem_filter, Finset.mem_singleton]
    refine ⟨fun h => bar_only sm (Bool.eq_false_iff.2 h.2), fun h => ⟨Finset.mem_univ _, ?_⟩⟩
    rw [h]; decide, BI.bigSep_singleton]

variable (ρ : Dev nD → PrngReg)

theorem launch_core (c : Dev nD) : iprop(unscopedBufs c (fun b => m ((c : Thread nD τ).loc b)) ∗ unscopedSems0 c
      ∗ owes (c : Thread nD τ) (owed c 0) ∅ ∗ Pipeline.launchCred (fun d => owed d 0) c ∗ prngReg c (ρ c) ∗ parked seed c)
    ⊢ (iprop(kept m c ∗ (semVal (barCell c) 0 ∗ parked seed c)) : sProp 𝕄) := by
  rw [show unscopedBufs c (fun b => m ((c : Thread nD τ).loc b)) = StableHlo.held (c : Thread nD τ) (Pipeline.ucRefs τ sig) (V₀ m c) from Pipeline.unscopedBufs_held c (V₀ m c),
    counters]
  unfold kept
  iintro ⟨Hh, Hv, HO, Hc, Hp, Hs⟩
  isplitl [Hh HO Hc Hp]
  · isplitl [Hh]; · iexact Hh
    isplitl [Hc]; · iapply (credits_dealt c) $$ Hc
    isplitl [HO]; · iexact HO
    iexists (ρ c); iexact Hp
  isplitl [Hv]; · iexact Hv
  iexact Hs

theorem launched : iprop((bigSep Finset.univ fun c : Dev nD => iprop(unscopedBufs c (fun b => m ((c : Thread nD τ).loc b)) ∗ unscopedSems0 c
        ∗ owes (c : Thread nD τ) (owed c 0) ∅ ∗ Pipeline.launchCred (fun d => owed d 0) c ∗ prngReg c (ρ c) ∗ parked seed c)) ∗ levAts L lv)
    ⊢ (|={Set.univ}=> bigSep Finset.univ (T₀ m) : sProp 𝕄) := by
  have h1 : (bigSep Finset.univ fun c : Dev nD => iprop(unscopedBufs c (fun b => m ((c : Thread nD τ).loc b)) ∗ unscopedSems0 c
        ∗ owes (c : Thread nD τ) (owed c 0) ∅ ∗ Pipeline.launchCred (fun d => owed d 0) c ∗ prngReg c (ρ c) ∗ parked seed c))
      ⊢ (iprop((bigSep Finset.univ fun c : Dev nD => kept m c) ∗ (bigSep barCells fun g => semVal g 0) ∗ seed) : sProp 𝕄) := by
    refine (bigSep_mono fun c _ => launch_core m ρ c).trans ?_
    rw [bigSep_sep', bigSep_sep', bigSep_parked, bigSep_map]
    exact BI.Entails.refl _
  have h2 : iprop((bigSep barCells fun g => atPos ER g 0 ∅ 0) ∗ (bigSep xCells fun g => openTok ER g) ∗ bigSep toks fun t => dutyTok ER t.1 t.2.1 t.2.2)
      ⊢ (bigSep Finset.univ fun c : Dev nD => linear c : sProp 𝕄) := by
    rw [toks_dealt, bigSep_map, bigSep_map, BI.bigSep_univ_prod, ← bigSep_sep', ← bigSep_sep']
    exact BI.Entails.refl _
  iintro ⟨H, -⟩
  ihave H' := h1 $$ H
  icases H' with ⟨HK, Hv, Hs⟩
  imod (Rounds.fund_launch ER (Rd m) cells_disjoint (fun g _ h => h) toks) $$ [Hv Hs] with ⟨%κ, -, #Hinv, #Hr, Hat, Hopen, Htok⟩
  · isplitl [Hv]; · iexact Hv
    iexact Hs
  imodintro
  iapply (bigSep_with_persistent (R := records m κ) (Φ := fun c => iprop(linear c ∗ kept m c)) fun c _ => T₀_of m κ c)
  isplitr
  · unfold records
    isplitr; · iexact Hinv
    iexact Hr
  rw [bigSep_sep']
  isplitr [HK]
  · iapply h2
    isplitl [Hat]; · iexact Hat
    isplitl [Hopen]; · iexact Hopen
    iexact Htok
  iexact HK

/-! ## The run -/

theorem ends (c : Dev nD) : (StableHlo.held (c : Thread nD τ) (Pipeline.ucRefs τ sig) (V₂ m c) : sProp 𝕄)
    = iprop(((((c : Dev nD), Proc.devRef .tc main_arg0) : Loc nD τ sig) ↦{fullShare} V₂ m c (Proc.devRef .tc main_arg0))
      ∗ ((((c : Dev nD), Proc.devRef .tc main_arg1) : Loc nD τ sig) ↦{fullShare} V₂ m c (Proc.devRef .tc main_arg1))
      ∗ ((((c : Dev nD), Proc.devRef .tc main_arg2) : Loc nD τ sig) ↦{fullShare} V₂ m c (Proc.devRef .tc main_arg2))
      ∗ ((((c : Dev nD), Proc.devRef .tc main_v1) : Loc nD τ sig) ↦{fullShare} V₂ m c (Proc.devRef .tc main_v1))
      ∗ ((((c : Dev nD), Proc.devRef .tc main_v2) : Loc nD τ sig) ↦{fullShare} V₂ m c (Proc.devRef .tc main_v2))
      ∗ ((((c : Dev nD), Proc.devRef .tc main_v3) : Loc nD τ sig) ↦{fullShare} V₂ m c (Proc.devRef .tc main_v3))) := by
  unfold StableHlo.held
  rw [bigSep_eq_bigSepL_of_eq [Proc.devRef .tc main_arg0, Proc.devRef .tc main_arg1, Proc.devRef .tc main_arg2, Proc.devRef .tc main_v1, Proc.devRef .tc main_v2, Proc.devRef .tc main_v3]
    (by decide +kernel) (by decide +kernel)]
  rfl

/-- What the run ends with on one device. -/
def Ends (c : Dev nD) (s : MemSt nD τ sig (Elt F)) : Prop :=
  (∀ b ∈ [Proc.devRef .tc main_arg0, Proc.devRef .tc main_arg1, Proc.devRef .tc main_arg2, Proc.devRef .tc main_v3], s.mem (((c : Dev nD), b) : Loc nD τ sig) = V₂ m c b)
    ∧ s.sem (barCell c) = 0

theorem read_off (c : Dev nD) (s' : Phys nD τ sig (Elt F)) : iprop(Tₙ m c ∗ SI s') ⊢ (|={Set.univ}=> iprop(⌜Ends m c s'.mem⌝ ∗ SI s') : sProp 𝕄) := by
  dsimp only [Tₙ]
  rw [ends]
  iintro ⟨⟨⟨H0, H1, H2, -, -, H3⟩, Hb⟩, HSI⟩
  icombine HSI H0 gives %h0
  icombine HSI H1 gives %h1
  icombine HSI H2 gives %h2
  icombine HSI H3 gives %h3
  icombine HSI Hb gives %hb
  imodintro
  isplitr
  · ipureintro
    refine ⟨?_, by simpa using hb⟩
    intro b hbm
    simp only [List.mem_cons, List.mem_nil_iff, or_false] at hbm
    rcases hbm with rfl | rfl | rfl | rfl
    · exact Buf.eq_of_forall_mem_univ h0
    · exact Buf.eq_of_forall_mem_univ h1
    · exact Buf.eq_of_forall_mem_univ h2
    · exact Buf.eq_of_forall_mem_univ h3
  iexact HSI

set_option backward.isDefEq.respectTransparency.types false in
/-- Every fair execution of the program on the four devices ends, with the arguments as they were, the same result on every device,
    and every counter of the machine at zero. -/
theorem run_all : θ_run defs (onTc (τ := τ) (main (F := F))) ⟨m, fun _ => 0, ρ⟩
    (fun r => (∀ c : Dev nD, r.2.mem ((c : Thread nD τ).loc main_v3) = res m
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun c => owed c 0) (hL := fun g h => if_neg h) (G := parked seed) (u₀ := u₀)
    (hu₀ := by
      unfold u₀
      rw [bigSep_parked]
      iintro Hu
      ihave H := (ownU_pair _ _) $$ Hu
      icases H with ⟨HP, HX⟩
      imodintro
      isplitl [HP]; · iexact HP
      iexact HX)
    (T₀ := T₀ m) (Tₙ := Tₙ m)
    (hch := ⟨fun c => .rfl, fun c => reg0_pre m c, fun c => reg0_post m c⟩)
    (hinit := launched m ρ)
    (QY := Ends m)
    (hfin := read_off m)
    (hQ := fun s h hs => ⟨fun c => by
        obtain ⟨hb, -⟩ := h c
        have h0 := hb (Proc.devRef .tc main_arg0) (by simp)
        have h1 := hb (Proc.devRef .tc main_arg1) (by simp)
        have h2 := hb (Proc.devRef .tc main_arg2) (by simp)
        have h3 := hb (Proc.devRef .tc main_v3) (by simp)
        rw [V₂_ne m c (Proc.devRef .tc main_arg0) (by decide)] at h0
        rw [V₂_ne m c (Proc.devRef .tc main_arg1) (by decide)] at h1
        rw [V₂_ne m c (Proc.devRef .tc main_arg2) (by decide)] at h2
        exact ⟨h3.trans (V₂_v3 m c), h0.trans (Gen.V_main_arg0 m c), h1.trans (Gen.V_main_arg1 m c), h2.trans (Gen.V_main_arg2 m c)⟩,
      sem_eq_zero hs fun c sm hsm => by
        obtain rfl := bar_only sm hsm
        exact (h c).2⟩)

end Cert.KernelIdeal.Talk
-- ==== Proof.Reads.lean ====
/- The kernel's payloads read at an index, the floats extended reals. -/
module

public import proofs.«01_k».proof.Proof.Data
public import Idealize.ShloMosaic.PureOps.Ideal
public import Idealize.ShloMosaic.PureOps.Ideal.Laws
public import Idealize.ShloMosaic.Lib.ValueIdx
public import Idealize.ShloMosaic.Lib.Pipeline.Value
public import Idealize.ShloMosaic.Lib.IdealHost

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Idealize.ShloMosaic.ValueIdx

/-- A sum over `a * b` positions, block by block. -/
theorem sum_blocks {M : Type} [AddCommMonoid M] {a b n : ℕ} (hn : n = a * b) (f : Fin n → M) :
    ∑ j, f j = ∑ g : Fin a, ∑ d : Fin b, f ⟨g.val * b + d.val, by
      subst hn; have := g.isLt; have := d.isLt
      calc g.val * b + d.val < g.val * b + b := by omega
        _ = (g.val + 1) * b := by ring
        _ ≤ a * b := Nat.mul_le_mul_right b (by omega)⟩ := by
  subst hn
  rw [← Equiv.sum_comp (finProdFinEquiv : Fin a × Fin b ≃ Fin (a * b)), Fintype.sum_prod_type]
  refine Finset.sum_congr rfl fun g _ => Finset.sum_congr rfl fun d _ => congrArg f (Fin.ext ?_)
  show d.val + b * g.val = g.val * b + d.val
  ring

/-- Row `d` of head `h` among the 1024 rows of a key block. -/
def row (h : Fin 16) (d : Fin 64) : Fin 1024 := ⟨h.val * 64 + d.val, by omega⟩

/-- The head a row belongs to, as the kernel computes it. -/
def headOf : IVec S16x1024 32 :=
  select (andi k0_pay8 (cmpi .ne k0_pay9 k0_pay10)) (subi k0_pay7 (broadcast S16x1024 1#32)) k0_pay7

theorem headOf_apply (h : Fin 16) (j : Fin 1024) : headOf (ix2 h j) = BitVec.ofNat 32 (j.val / 64) := by
  refine (show headOf (ix2 h j) = headOf (ix2 0 j) from rfl).trans ?_
  clear h
  revert j
  decide +kernel

theorem io_apply (h : Fin 16) (j : Fin 1024) : io (ix2 h j) = BitVec.ofNat 32 h.val := by
  refine (show io (ix2 h j) = io (ix2 h 0) from rfl).trans ?_
  clear j
  revert h
  decide +kernel

theorem mask_apply (h : Fin 16) (j : Fin 1024) : cmpi .eq headOf io (ix2 h j) = if j.val / 64 = h.val then 1#1 else 0#1 := by
  show IntOp.cmpi .eq (headOf (ix2 h j)) (io (ix2 h j)) = _
  rw [headOf_apply, io_apply]
  have := h.isLt
  have := j.isLt
  have key : (BitVec.ofNat 32 (j.val / 64) = BitVec.ofNat 32 h.val) ↔ j.val / 64 = h.val := by
    rw [← BitVec.toNat_inj, BitVec.toNat_ofNat, BitVec.toNat_ofNat]
    omega
  by_cases hc : j.val / 64 = h.val
  · rw [key.2 hc, if_pos hc]; simp [IntOp.cmpi]
  · have hn := mt key.1 hc
    rw [if_neg hc]
    simp only [IntOp.cmpi, beq_eq_false_iff_ne.2 hn]
    rfl

theorem eighth : FloatOps.ofBits (F := Ideal) .f32 0x3E000000#32 = ((1 / 8 : ℝ) : EReal) := by
  show Ideal.ofBits _ _ = _
  simp [Ideal.ofBits, Ideal.ieee]
  rw [← EReal.coe_mul]
  norm_num

theorem least : FloatOps.ofBits (F := Ideal) .f32 0xFF800000#32 = (⊥ : EReal) := by
  show Ideal.ofBits _ _ = _
  simp [Ideal.ofBits, Ideal.ieee]

section Payload
variable (q : FVec Ideal S16x64 .bf16) (k v : FVec Ideal S1024x1024 .bf16)

/-- Sixteen copies of the queries side by side, read at an index. -/
theorem tiled_apply (h : Fin 16) (j : Fin 1024) (hc : Shape.Concatenates ((List.replicate 16 (⟨S16x64, q⟩ : (s : Shape) × (s.Idx → EReal))).map (·.1)) S16x1024 1) :
    concatenate S16x1024 1 (List.replicate 16 (⟨S16x64, q⟩ : (s : Shape) × (s.Idx → EReal))) hc (ix2 h j) = q (ix2 h ⟨j.val % 64, Nat.mod_lt _ (by decide)⟩) :=
  concatenate_replicate_apply 1 16 q hc rfl (ix2 h j) (ix2 h ⟨j.val % 64, Nat.mod_lt _ (by decide)⟩) rfl
    (fun b hb => match b with
      | ⟨0, _⟩ => rfl
      | ⟨1, _⟩ => absurd rfl hb)

/-- A head's queries, zero off the head's rows, read at an index. -/
def lhs : FVec Ideal S16x1024 .bf16 := fun i => if (i 1).val / 64 = (i 0).val then q (ix2 (i 0) ⟨(i 1).val % 64, Nat.mod_lt _ (by decide)⟩) else 0

/-- The scores of a key block. -/
abbrev score (h : Fin 16) (n : Fin 1024) : EReal := (∑ d : Fin 64, q (ix2 h d) * k (ix2 (row h d) n)) * ((1 / 8 : ℝ) : EReal)

/-- The two operands' indices of the score product. -/
theorem dot1_contr : dot_S16x1024_S1024x1024_S16x1024_1_0_0_1_n_n.contr.rank = 1 := rfl
abbrev e1 : dot_S16x1024_S1024x1024_S16x1024_1_0_0_1_n_n.contr.Idx ≃ Fin 1024 := contrEquiv1 _ 1024 dot1_contr rfl
theorem dot1_l (h : Fin 16) (n j : Fin 1024) : dot_S16x1024_S1024x1024_S16x1024_1_0_0_1_n_n.lhsIdx (ix2 h n) (e1.symm j) = ix2 h j := by
  funext a
  match a with
  | ⟨0, _⟩ => rfl
  | ⟨1, _⟩ => exact Fin.ext (contrEquiv1_symm_val _ 1024 dot1_contr rfl j)
theorem dot1_r (h : Fin 16) (n j : Fin 1024) : dot_S16x1024_S1024x1024_S16x1024_1_0_0_1_n_n.rhsIdx (ix2 h n) (e1.symm j) = ix2 j n := by
  funext a
  match a with
  | ⟨0, _⟩ => exact Fin.ext (contrEquiv1_symm_val _ 1024 dot1_contr rfl j)
  | ⟨1, _⟩ => rfl

theorem pay11_apply (h : Fin 16) (n : Fin 1024) : k0_pay11 q k io k0_pay7 k0_pay8 k0_pay9 k0_pay10 (ix2 h n) = score q k h n := by
  unfold k0_pay11
  simp only [matmul]
  rw [mulf_apply, broadcast_apply]
  show _ * (FloatOps.ofBits (F := Ideal) .f32 0x3E000000#32 : EReal) = _
  rw [eighth]
  refine congrArg (· * ((1 / 8 : ℝ) : EReal)) ?_
  rw [Ideal.matmul_constant_zero_apply, ← Equiv.sum_comp e1.symm]
  have hl : ∀ j : Fin 1024, select (cmpi .eq headOf io) (concatenate S16x1024 1 (List.replicate 16 (⟨S16x64, q⟩ : (s : Shape) × (s.Idx → EReal))) concatenates_S16x64_S16x64_S16x64_S16x64_S16x64_S16x64_S16x64_S16x64_S16x64_S16x64_S16x64_S16x64_S16x64_S16x64_S16x64_S16x64_S16x1024_d1) (broadcast S16x1024 (Scalar.truncf (F := Ideal) .bf16 bitsLt_bf16_f32 (Scalar.ofBits .f32 0x00000000#32))) (ix2 h j) = if j.val / 64 = h.val then q (ix2 h ⟨j.val % 64, Nat.mod_lt _ (by decide)⟩) else 0 := by
    intro j
    rw [select_apply, mask_apply, tiled_apply, broadcast_apply]
    by_cases e : j.val / 64 = h.val
    · rw [if_pos e, if_pos e, select_one]
    · rw [if_neg e, if_neg e, select_zero]
      exact Ideal.ofBits_zero_f32
  refine (Finset.sum_congr rfl fun j _ => congrArg₂ (· * ·) ((congrArg _ (dot1_l h n j)).trans (hl j)) (congrArg k (dot1_r h n j))).trans ?_
  rw [sum_blocks (a := 16) (b := 64) rfl, Finset.sum_eq_single h]
  · refine Finset.sum_congr rfl fun d _ => ?_
    have h1 : (h.val * 64 + d.val) / 64 = h.val := by have := d.isLt; omega
    have h2 : (⟨(h.val * 64 + d.val) % 64, Nat.mod_lt _ (by decide)⟩ : Fin 64) = d := Fin.ext (by have := d.isLt; show (h.val * 64 + d.val) % 64 = d.val; omega)
    show (if (h.val * 64 + d.val) / 64 = h.val then _ else _) * _ = _
    rw [if_pos h1, h2]
    rfl
  · intro g _ hg
    refine Finset.sum_eq_zero fun d _ => ?_
    have h1 : ¬(g.val * 64 + d.val) / 64 = h.val := by have := d.isLt; have := Fin.val_ne_of_ne hg; omega
    show (if (g.val * 64 + d.val) / 64 = h.val then _ else _) * _ = _
    rw [if_neg h1, zero_mul]
  · exact fun hn => absurd (Finset.mem_univ h) hn

/-- A head's greatest score of a key block. -/
abbrev peak (h : Fin 16) : EReal := (Finset.univ : Finset (Fin 1024)).fold max ⊥ (fun n => score q k h n)

theorem lift1 (h : Fin 16) (n : Fin 1024) : reduces_S16x1024_S16.lift (ix1 h) n = ix2 h n := by
  funext a
  match a with
  | ⟨0, _⟩ => rfl
  | ⟨1, _⟩ => rfl

theorem pay12_apply (h : Fin 16) : k0_pay12 q k io k0_pay7 k0_pay8 k0_pay9 k0_pay10 (ix1 h) = peak q k h := by
  unfold k0_pay12
  refine (Ideal.multiReduction_maximumf_single _ _ reduces_S16x1024_S16 _ _ (ix1 h)).trans ?_
  rw [least]
  exact congrArg (Finset.fold max ⊥ · _) (funext fun n => (congrArg _ (lift1 h n)).trans (pay11_apply q k h n))

/-- The weight of a key. -/
abbrev weight (h : Fin 16) (n : Fin 1024) : EReal := Ideal.exp (score q k h n - peak q k h)

theorem pay13_apply (h : Fin 16) (n : Fin 1024) : k0_pay13 q k io k0_pay7 k0_pay8 k0_pay9 k0_pay10 (ix2 h n) = weight q k h n := by
  unfold k0_pay13
  show Ideal.exp (k0_pay11 q k io k0_pay7 k0_pay8 k0_pay9 k0_pay10 (ix2 h n) - broadcastTo S16x1024 _ _ (ix2 h n)) = _
  rw [pay11_apply, broadcastTo_apply (s := S16x1) (t := S16x1024) _ _ (ix2 h n) (ix2 h 0) (fun a => match a with | ⟨0, _⟩ => rfl | ⟨1, _⟩ => rfl),
    shapeCast_apply _ _ (ix2 h 0) (ix1 h) (by
      rw [Shape.rowMajor_val_one, Shape.rowMajor_val_two]; show h.val = h.val * 1 + 0; omega), pay12_apply]

theorem pay15_apply (h : Fin 16) : k0_pay15 q k io k0_pay7 k0_pay8 k0_pay9 k0_pay10 (ix4 0 0 h 0) = peak q k h := by
  unfold k0_pay15
  show shapeCast S1x1x16x1 _ _ (ix4 0 0 h 0) = _
  rw [shapeCast_apply _ _ (ix4 0 0 h 0) (ix2 h 0) (by
      rw [Shape.rowMajor_val_two, Shape.rowMajor_val_four]; show h.val * 1 + 0 = ((0 * 1 + 0) * 16 + h.val) * 1 + 0; omega),
    shapeCast_apply _ _ (ix2 h 0) (ix1 h) (by
      rw [Shape.rowMajor_val_one, Shape.rowMajor_val_two]; show h.val = h.val * 1 + 0; omega), pay12_apply]

theorem pay17_apply (h : Fin 16) : k0_pay17 (k0_pay16 q k io k0_pay7 k0_pay8 k0_pay9 k0_pay10) (ix4 0 0 h 0) = ∑ n, weight q k h n := by
  unfold k0_pay17 k0_pay16
  show shapeCast S1x1x16x1 (shapeCast S16x1 _ _) _ (ix4 0 0 h 0) = _
  rw [shapeCast_apply _ _ (ix4 0 0 h 0) (ix2 h 0) (by
      rw [Shape.rowMajor_val_two, Shape.rowMajor_val_four]; show h.val * 1 + 0 = ((0 * 1 + 0) * 16 + h.val) * 1 + 0; omega),
    shapeCast_apply _ _ (ix2 h 0) (ix1 h) (by
      rw [Shape.rowMajor_val_one, Shape.rowMajor_val_two]; show h.val = h.val * 1 + 0; omega)]
  refine (Ideal.multiReduction_add_single _ _ reduces_S16x1024_S16 _ _ (ix1 h)).trans ?_
  exact Finset.sum_congr rfl fun n _ => (congrArg _ (lift1 h n)).trans (pay13_apply q k h n)

/-- The two operands' indices of the value product. -/
theorem dot2_contr : dot_S1024x1024_S1024_S1024_1_0_0_n_n_n.contr.rank = 1 := rfl
abbrev e2 : dot_S1024x1024_S1024_S1024_1_0_0_n_n_n.contr.Idx ≃ Fin 1024 := contrEquiv1 _ 1024 dot2_contr rfl
theorem dot2_l (r n : Fin 1024) : dot_S1024x1024_S1024_S1024_1_0_0_n_n_n.lhsIdx (ix1 r) (e2.symm n) = ix2 r n := by
  funext a
  match a with
  | ⟨0, _⟩ => rfl
  | ⟨1, _⟩ => exact Fin.ext (contrEquiv1_symm_val _ 1024 dot2_contr rfl n)

theorem pay14_apply (h : Fin 16) (d : Fin 64) : k0_pay14 q k v io k0_pay7 k0_pay8 k0_pay9 k0_pay10 (ix4 0 0 h d) = ∑ n, v (ix2 (row h d) n) * weight q k h n := by
  unfold k0_pay14
  simp only [matmul]
  rw [shapeCast_apply _ _ (ix4 0 0 h d) (ix2 h d) (by
      rw [Shape.rowMajor_val_two, Shape.rowMajor_val_four]; show h.val * 64 + d.val = ((0 * 1 + 0) * 16 + h.val) * 64 + d.val; omega),
    shapeCast_apply _ _ (ix2 h d) (ix1 (row h d)) (by
      rw [Shape.rowMajor_val_one, Shape.rowMajor_val_two]; rfl),
    Ideal.matmul_constant_zero_apply, ← Equiv.sum_comp e2.symm]
  refine Finset.sum_congr rfl fun n _ => ?_
  rw [dot2_l]
  show _ * (FloatOps.ofBits (F := Ideal) .f32 0x3F800000#32 : EReal) = _
  rw [show (FloatOps.ofBits (F := Ideal) .f32 0x3F800000#32 : EReal) = 1 from Ideal.ofBits_one_f32, mul_one]
  refine congrArg (v (ix2 (row h d) n) * ·) ?_
  rw [shapeCast_apply _ _ (ix2 (row h d) n) (ix3 h d n) (by
      rw [Shape.rowMajor_val_three, Shape.rowMajor_val_two]; rfl),
    broadcastTo_apply (s := S16x1x1024) (t := S16x64x1024) _ _ (ix3 h d n) (ix3 h 0 n) (fun a => match a with | ⟨0, _⟩ => rfl | ⟨1, _⟩ => rfl | ⟨2, _⟩ => rfl),
    shapeCast_apply _ _ (ix3 h 0 n) (ix3 h 0 n) rfl,
    shapeCast_apply _ _ (ix3 h 0 n) (ix2 h n) (by
      rw [Shape.rowMajor_val_two, Shape.rowMajor_val_three]; show h.val * 1024 + n.val = (h.val * 1 + 0) * 1024 + n.val; omega), pay13_apply]

end Payload

end Cert.KernelIdeal.Talk
-- ==== Proof.Shares.lean ====
/- The result read at an index: the shares of the four devices, and the queries, keys and values they are computed from. -/
module

public import proofs.«01_k».proof.Proof.Reads
public import proofs.«01_k».proof.Proof.Last
public import Idealize.ShloMosaic.Lib.StableHlo.Run

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Idealize.ShloMosaic.ValueIdx

variable (m : (ℓ : Loc nD τ sig) → Buf (Elt Ideal) ℓ)

/-- The arguments as device `c` holds them. -/
abbrev argQ (c : Dev nD) : S16x1x16x64.Idx → EReal := m ((c : Thread nD τ).loc main_arg0)
abbrev argK (c : Dev nD) : S16x1024x16x64.Idx → EReal := m ((c : Thread nD τ).loc main_arg1)
abbrev argV (c : Dev nD) : S16x1024x16x64.Idx → EReal := m ((c : Thread nD τ).loc main_arg2)

theorem V_v1 (c : Dev nD) : V m c main_v1 = transpose S16x16x64x1024 [0, 2, 3, 1] (argK m c) transposes_S16x1024x16x64_S16x16x64x1024_0_2_3_1 := by
  show StableHlo.after hostOps0 _ (Proc.devRef .tc main_v1) = _
  unfold hostOps0
  after_results
theorem V_v2 (c : Dev nD) : V m c main_v2 = transpose S16x16x64x1024 [0, 2, 3, 1] (argV m c) transposes_S16x1024x16x64_S16x16x64x1024_0_2_3_1 := by
  show StableHlo.after hostOps0 _ (Proc.devRef .tc main_v2) = _
  unfold hostOps0
  after_results

/-- The keys transposed, read at an index. -/
theorem turned_apply (x : S16x1024x16x64.Idx → EReal) (b h : Fin 16) (d : Fin 64) (n : Fin 1024) :
    transpose S16x16x64x1024 [0, 2, 3, 1] x transposes_S16x1024x16x64_S16x16x64x1024_0_2_3_1 (ix4 b h d n) = x (ix4 b n h d) :=
  transpose_apply _ _ _ _ _ (fun a => match a with | ⟨0, _⟩ => rfl | ⟨1, _⟩ => rfl | ⟨2, _⟩ => rfl | ⟨3, _⟩ => rfl)

theorem index_0 : ∀ (t : Fin 16) (a : Fin 4), win0_0.index (pt t) a = if a = 0 then t.val else 0 := by decide +kernel
theorem index_1 : ∀ (t : Fin 16) (a : Fin 4), win0_1.index (pt t) a = if a = 0 then t.val else 0 := by decide +kernel
theorem index_2 : ∀ (t : Fin 16) (a : Fin 4), win0_2.index (pt t) a = if a = 0 then t.val else 0 := by decide +kernel

theorem blk0_apply (c : Dev nD) (b h : Fin 16) (d : Fin 64) : iblk m c 0 (pt b) (ix4 0 0 h d) = argQ m c (ix4 b 0 h d) := by
  refine Eq.trans (congrArg (V m c main_arg0) (funext fun a => Fin.ext ?_ : _ = ix4 b 0 h d)) (congrFun (V_main_arg0 m c) _)
  refine (Pipeline.Window.rect_emb_val win0_0 (pt b) (ix4 0 0 h d) a).trans ?_
  rw [index_0 b a]
  match a with
  | ⟨0, _⟩ => show b.val * 1 + 0 = b.val; omega
  | ⟨1, _⟩ => rfl
  | ⟨2, _⟩ => show 0 * 16 + h.val = h.val; omega
  | ⟨3, _⟩ => show 0 * 64 + d.val = d.val; omega

theorem blk1_apply (c : Dev nD) (b h : Fin 16) (d : Fin 64) (n : Fin 1024) : iblk m c 1 (pt b) (ix4 0 h d n) = argK m c (ix4 b n h d) := by
  refine Eq.trans (congrArg (V m c main_v1) (funext fun a => Fin.ext ?_ : _ = ix4 b h d n)) ((congrFun (V_v1 m c) _).trans (turned_apply _ b h d n))
  refine (Pipeline.Window.rect_emb_val win0_1 (pt b) (ix4 0 h d n) a).trans ?_
  rw [index_1 b a]
  match a with
  | ⟨0, _⟩ => show b.val * 1 + 0 = b.val; omega
  | ⟨1, _⟩ => show 0 * 16 + h.val = h.val; omega
  | ⟨2, _⟩ => show 0 * 64 + d.val = d.val; omega
  | ⟨3, _⟩ => show 0 * 1024 + n.val = n.val; omega

theorem blk2_apply (c : Dev nD) (b h : Fin 16) (d : Fin 64) (n : Fin 1024) : iblk m c 2 (pt b) (ix4 0 h d n) = argV m c (ix4 b n h d) := by
  refine Eq.trans (congrArg (V m c main_v2) (funext fun a => Fin.ext ?_ : _ = ix4 b h d n)) ((congrFun (V_v2 m c) _).trans (turned_apply _ b h d n))
  refine (Pipeline.Window.rect_emb_val win0_2 (pt b) (ix4 0 h d n) a).trans ?_
  rw [index_2 b a]
  match a with
  | ⟨0, _⟩ => show b.val * 1 + 0 = b.val; omega
  | ⟨1, _⟩ => show 0 * 16 + h.val = h.val; omega
  | ⟨2, _⟩ => show 0 * 64 + d.val = d.val; omega
  | ⟨3, _⟩ => show 0 * 1024 + n.val = n.val; omega

theorem qB_apply (c : Dev nD) (b h : Fin 16) (d : Fin 64) : qB m c b (ix2 h d) = argQ m c (ix4 b 0 h d) := by
  unfold qB k0_pay4
  refine (shapeCast_apply _ _ (ix2 h d) (ix4 0 0 h d) (by
    rw [Shape.rowMajor_val_two, Shape.rowMajor_val_four]; show ((0 * 1 + 0) * 16 + h.val) * 64 + d.val = h.val * 64 + d.val; omega)).trans ?_
  exact blk0_apply m c b h d

theorem flat_apply (x : S1x16x64x1024.Idx → EReal) (h : Fin 16) (d : Fin 64) (n : Fin 1024) :
    shapeCast S1024x1024 (shapeCast S16x64x1024 x shapeCasts_S1x16x64x1024_S16x64x1024) shapeCasts_S16x64x1024_S1024x1024 (ix2 (row h d) n) = x (ix4 0 h d n) := by
  rw [shapeCast_apply _ _ (ix2 (row h d) n) (ix3 h d n) (by rw [Shape.rowMajor_val_three, Shape.rowMajor_val_two]; rfl),
    shapeCast_apply _ _ (ix3 h d n) (ix4 0 h d n) (by
      rw [Shape.rowMajor_val_three, Shape.rowMajor_val_four]; show ((0 * 16 + h.val) * 64 + d.val) * 1024 + n.val = (h.val * 64 + d.val) * 1024 + n.val; omega)]

theorem kB_apply (c : Dev nD) (b h : Fin 16) (d : Fin 64) (n : Fin 1024) : kB m c b (ix2 (row h d) n) = argK m c (ix4 b n h d) :=
  (flat_apply _ h d n).trans (blk1_apply m c b h d n)
theorem vB_apply (c : Dev nD) (b h : Fin 16) (d : Fin 64) (n : Fin 1024) : vB m c b (ix2 (row h d) n) = argV m c (ix4 b n h d) :=
  (flat_apply _ h d n).trans (blk2_apply m c b h d n)

/-- The score of key `n` of device `c`. -/
def sc (b h : Fin 16) (c : Fin 4) (n : Fin 1024) : EReal := (∑ d : Fin 64, argQ m c (ix4 b 0 h d) * argK m c (ix4 b n h d)) * ((1 / 8 : ℝ) : EReal)
/-- The greatest of them. -/
def greatest (b h : Fin 16) (c : Fin 4) : EReal := (Finset.univ : Finset (Fin 1024)).fold max ⊥ (fun n => sc m b h c n)

theorem score_eq (b h : Fin 16) (c : Fin 4) (n : Fin 1024) : score (qB m c b) (kB m c b) h n = sc m b h c n := by
  unfold sc score
  exact congrArg (· * _) (Finset.sum_congr rfl fun d _ => by rw [qB_apply, kB_apply])
theorem peak_eq (b h : Fin 16) (c : Fin 4) : peak (qB m c b) (kB m c b) h = greatest m b h c := by
  unfold greatest peak
  exact congrArg (Finset.fold max ⊥ · _) (funext fun n => score_eq m b h c n)
theorem weight_eq (b h : Fin 16) (c : Fin 4) (n : Fin 1024) : weight (qB m c b) (kB m c b) h n = Ideal.exp (sc m b h c n - greatest m b h c) := by
  unfold weight
  rw [score_eq, peak_eq]

theorem mAll_apply (c : Fin 4) (b h : Fin 16) : mAll m (ix4 c b h 0) = greatest m b h c := by
  rw [← peak_eq]
  exact pay15_apply (qB m c b) (kB m c b) h
theorem lAll_apply (c : Fin 4) (b h : Fin 16) : lAll m (ix4 c b h 0) = ∑ n, Ideal.exp (sc m b h c n - greatest m b h c) :=
  (pay17_apply _ _ h).trans (Finset.sum_congr rfl fun n _ => weight_eq m b h c n)
theorem uAll_apply (c : Fin 4) (b h : Fin 16) (d : Fin 64) : uAll m (ix4 c b h d) = ∑ n, argV m c (ix4 b n h d) * Ideal.exp (sc m b h c n - greatest m b h c) :=
  (pay14_apply _ _ _ h d).trans (Finset.sum_congr rfl fun n _ => by rw [weight_eq, vB_apply])

section Combine
variable (M L : FVec Ideal S4x16x16 .f32) (U : FVec Ideal S4x16x16x64 .f32)

theorem lift0 (b h : Fin 16) (c : Fin 4) : reduces_S4x16x16_S16x16.lift (ix2 b h) c = ix3 c b h := by
  funext a
  match a with
  | ⟨0, _⟩ => rfl
  | ⟨1, _⟩ => rfl
  | ⟨2, _⟩ => rfl
theorem lift0' (b h : Fin 16) (d : Fin 64) (c : Fin 4) : reduces_S4x16x16x64_S16x16x64.lift (ix3 b h d) c = ix4 c b h d := by
  funext a
  match a with
  | ⟨0, _⟩ => rfl
  | ⟨1, _⟩ => rfl
  | ⟨2, _⟩ => rfl
  | ⟨3, _⟩ => rfl

/-- The greatest of the devices' greatest scores. -/
abbrev top (b h : Fin 16) : EReal := (Finset.univ : Finset (Fin 4)).fold max ⊥ (fun c => M (ix3 c b h))

theorem pay3_apply (b h : Fin 16) (d : Fin 64) : k0_pay3 M L U (ix4 b 0 h d)
    = Ideal.div (∑ c : Fin 4, U (ix4 c b h d) * Ideal.exp (M (ix3 c b h) - top M b h)) (∑ c : Fin 4, L (ix3 c b h) * Ideal.exp (M (ix3 c b h) - top M b h)) := by
  have ht : multiReduction .maximumf [0] S16x16 M 0xFF800000#32 reduces_S4x16x16_S16x16 (.inl rfl) rfl (ix2 b h) = top M b h := by
    refine (Ideal.multiReduction_maximumf_single _ _ reduces_S4x16x16_S16x16 _ _ (ix2 b h)).trans ?_
    rw [least]
    exact congrArg (Finset.fold max ⊥ · _) (funext fun c => congrArg M (lift0 b h c))
  have ha : ∀ c : Fin 4, exp (F := Ideal) (subf M (broadcastTo S4x16x16 (shapeCast S1x16x16 (multiReduction .maximumf [0] S16x16 M 0xFF800000#32 reduces_S4x16x16_S16x16 (.inl rfl) rfl) shapeCasts_S16x16_S1x16x16) broadcasts_S1x16x16_S4x16x16)) (ix3 c b h)
      = Ideal.exp (M (ix3 c b h) - top M b h) := by
    intro c
    show Ideal.exp (M (ix3 c b h) - broadcastTo S4x16x16 _ _ (ix3 c b h)) = _
    rw [broadcastTo_apply (s := S1x16x16) (t := S4x16x16) _ _ (ix3 c b h) (ix3 0 b h) (fun a => match a with | ⟨0, _⟩ => rfl | ⟨1, _⟩ => rfl | ⟨2, _⟩ => rfl),
      shapeCast_apply _ _ (ix3 0 b h) (ix2 b h) (by
        rw [Shape.rowMajor_val_two, Shape.rowMajor_val_three]; show b.val * 16 + h.val = (0 * 16 + b.val) * 16 + h.val; omega), ht]
  unfold k0_pay3
  refine (shapeCast_apply _ _ (ix4 b 0 h d) (ix3 b h d) (by
    rw [Shape.rowMajor_val_three, Shape.rowMajor_val_four]; show (b.val * 16 + h.val) * 64 + d.val = ((b.val * 1 + 0) * 16 + h.val) * 64 + d.val; omega)).trans ?_
  refine congrArg₂ Ideal.div ?_ ?_
  · refine (Ideal.multiReduction_add_single _ _ reduces_S4x16x16x64_S16x16x64 _ _ (ix3 b h d)).trans (Finset.sum_congr rfl fun c _ => ?_)
    rw [lift0' b h d c]
    refine congrArg (U (ix4 c b h d) * ·) ?_
    rw [broadcastTo_apply (s := S4x16x16x1) (t := S4x16x16x64) _ _ (ix4 c b h d) (ix4 c b h 0) (fun a => match a with | ⟨0, _⟩ => rfl | ⟨1, _⟩ => rfl | ⟨2, _⟩ => rfl | ⟨3, _⟩ => rfl),
      shapeCast_apply (s := S4x16x16) (t := S4x16x16x1) _ _ (ix4 c b h 0) (ix3 c b h) (by
        rw [Shape.rowMajor_val_three, Shape.rowMajor_val_four]; show (c.val * 16 + b.val) * 16 + h.val = ((c.val * 16 + b.val) * 16 + h.val) * 1 + 0; omega)]
    exact ha c
  · refine (broadcastTo_apply (s := S16x16x1) (t := S16x16x64) _ _ (ix3 b h d) (ix3 b h 0) (fun a => match a with | ⟨0, _⟩ => rfl | ⟨1, _⟩ => rfl | ⟨2, _⟩ => rfl)).trans ?_
    refine (shapeCast_apply _ _ (ix3 b h 0) (ix2 b h) (by
      rw [Shape.rowMajor_val_two, Shape.rowMajor_val_three]; show b.val * 16 + h.val = (b.val * 16 + h.val) * 1 + 0; omega)).trans ?_
    refine (Ideal.multiReduction_add_single _ _ reduces_S4x16x16_S16x16 _ _ (ix2 b h)).trans (Finset.sum_congr rfl fun c _ => ?_)
    rw [lift0 b h c]
    exact congrArg (L (ix3 c b h) * ·) (ha c)
end Combine

theorem drop_apply (x : S4x16x16x1.Idx → EReal) (c : Fin 4) (b h : Fin 16) : shapeCast S4x16x16 x shapeCasts_S4x16x16x1_S4x16x16 (ix3 c b h) = x (ix4 c b h 0) :=
  shapeCast_apply _ _ (ix3 c b h) (ix4 c b h 0) (by
    rw [Shape.rowMajor_val_three, Shape.rowMajor_val_four]; show ((c.val * 16 + b.val) * 16 + h.val) * 1 + 0 = (c.val * 16 + b.val) * 16 + h.val; omega)

/-- The result at an index, by the scores. -/
theorem res_apply (b h : Fin 16) (d : Fin 64) : res m (ix4 b 0 h d)
    = Ideal.div (∑ c : Fin 4, (∑ n, argV m c (ix4 b n h d) * Ideal.exp (sc m b h c n - greatest m b h c)) * Ideal.exp (greatest m b h c - (Finset.univ : Finset (Fin 4)).fold max ⊥ (greatest m b h)))
        (∑ c : Fin 4, (∑ n, Ideal.exp (sc m b h c n - greatest m b h c)) * Ideal.exp (greatest m b h c - (Finset.univ : Finset (Fin 4)).fold max ⊥ (greatest m b h))) := by
  have hm : ∀ c, k0_pay1 (mAll m) (ix3 c b h) = greatest m b h c := by
    intro c
    rw [← mAll_apply]
    exact drop_apply (mAll m) c b h
  have hl : ∀ c, k0_pay2 (lAll m) (ix3 c b h) = ∑ n, Ideal.exp (sc m b h c n - greatest m b h c) := fun c => (drop_apply _ c b h).trans (lAll_apply m c b h)
  unfold res
  rw [pay3_apply]
  have ht : top (k0_pay1 (mAll m)) b h = (Finset.univ : Finset (Fin 4)).fold max ⊥ (greatest m b h) := congrArg (Finset.fold max ⊥ · _) (funext hm)
  simp only [ht, hm, hl, uAll_apply]

end Cert.KernelIdeal.Talk
-- ==== Proof.Whole.lean ====
/- The reference's result read at an index, the floats extended reals. -/
module

public import proofs.«01_k».proof.Proof.Gen.ReferenceIdeal
public import proofs.«01_k».proof.Proof.Gen.ReferenceIdeal.Run
public import proofs.«01_k».proof.Proof.Reads

@[expose] public section

noncomputable section

namespace Cert.ReferenceIdeal.Talk

open Cert.ReferenceIdeal Cert.ReferenceIdeal.Gen
open Idealize.ShloMosaic Idealize.ShloMosaic.ValueIdx

variable (Q : FVec Ideal S16x1x16x64 .bf16) (K V : FVec Ideal S16x4096x16x64 .bf16)

/-- The two products' operand indices. -/
theorem dotS_contr : dot_S16x1x16x64_S16x4096x16x64_S16x16x1x4096_3_3_1_1_02_02.contr.rank = 1 := rfl
abbrev eS : dot_S16x1x16x64_S16x4096x16x64_S16x16x1x4096_3_3_1_1_02_02.contr.Idx ≃ Fin 64 := contrEquiv1 _ 64 dotS_contr rfl
theorem dotS_l (b h : Fin 16) (n : Fin 4096) (d : Fin 64) : dot_S16x1x16x64_S16x4096x16x64_S16x16x1x4096_3_3_1_1_02_02.lhsIdx (ix4 b h 0 n) (eS.symm d) = ix4 b 0 h d := by
  funext a
  match a with
  | ⟨0, _⟩ => rfl
  | ⟨1, _⟩ => rfl
  | ⟨2, _⟩ => rfl
  | ⟨3, _⟩ => exact Fin.ext (contrEquiv1_symm_val _ 64 dotS_contr rfl d)
theorem dotS_r (b h : Fin 16) (n : Fin 4096) (d : Fin 64) : dot_S16x1x16x64_S16x4096x16x64_S16x16x1x4096_3_3_1_1_02_02.rhsIdx (ix4 b h 0 n) (eS.symm d) = ix4 b n h d := by
  funext a
  match a with
  | ⟨0, _⟩ => rfl
  | ⟨1, _⟩ => rfl
  | ⟨2, _⟩ => rfl
  | ⟨3, _⟩ => exact Fin.ext (contrEquiv1_symm_val _ 64 dotS_contr rfl d)
theorem dotO_contr : dot_S16x4096x16x64_S16x16x1x4096_S16x16x64x1_1_3_3_2_02_01.contr.rank = 1 := rfl
abbrev eO : dot_S16x4096x16x64_S16x16x1x4096_S16x16x64x1_1_3_3_2_02_01.contr.Idx ≃ Fin 4096 := contrEquiv1 _ 4096 dotO_contr rfl
theorem dotO_l (b h : Fin 16) (n : Fin 4096) (d : Fin 64) : dot_S16x4096x16x64_S16x16x1x4096_S16x16x64x1_1_3_3_2_02_01.lhsIdx (ix4 b h d 0) (eO.symm n) = ix4 b n h d := by
  funext a
  match a with
  | ⟨0, _⟩ => rfl
  | ⟨1, _⟩ => exact Fin.ext (contrEquiv1_symm_val _ 4096 dotO_contr rfl n)
  | ⟨2, _⟩ => rfl
  | ⟨3, _⟩ => rfl
theorem dotO_r (b h : Fin 16) (n : Fin 4096) (d : Fin 64) : dot_S16x4096x16x64_S16x16x1x4096_S16x16x64x1_1_3_3_2_02_01.rhsIdx (ix4 b h d 0) (eO.symm n) = ix4 b h 0 n := by
  funext a
  match a with
  | ⟨0, _⟩ => rfl
  | ⟨1, _⟩ => rfl
  | ⟨2, _⟩ => rfl
  | ⟨3, _⟩ => exact Fin.ext (contrEquiv1_symm_val _ 4096 dotO_contr rfl n)

/-- The scaled scores. -/
def scores : FVec Ideal S16x16x1x4096 .f32 :=
  mulf (Host.dotGeneral dot_S16x1x16x64_S16x4096x16x64_S16x16x1x4096_3_3_1_1_02_02 none (extf .f32 Q bitsLt_bf16_f32) (extf .f32 K bitsLt_bf16_f32))
    (broadcastInDim S16x16x1x4096 ![] bcast_S_S16x16x1x4096 (constant S_ .f32 0x3E000000#32))
def sc (b h : Fin 16) (n : Fin 4096) : EReal := (∑ d : Fin 64, Q (ix4 b 0 h d) * K (ix4 b n h d)) * ((1 / 8 : ℝ) : EReal)

theorem scores_apply (b h : Fin 16) (n : Fin 4096) : scores Q K (ix4 b h 0 n) = sc Q K b h n := by
  unfold scores sc
  rw [mulf_apply]
  show _ * (FloatOps.ofBits (F := Ideal) .f32 0x3E000000#32 : EReal) = _
  rw [Cert.KernelIdeal.Talk.eighth]
  refine congrArg (· * ((1 / 8 : ℝ) : EReal)) ?_
  refine (Ideal.dotGeneral_apply _ _ _ _ _ _).trans ?_
  rw [← Equiv.sum_comp eS.symm]
  refine Finset.sum_congr rfl fun d _ => ?_
  rw [dotS_l, dotS_r]
  rfl

/-- A row of a batch entry and head, put back over the keys. -/
def over (x : FVec Ideal S16x16x1 .f32) : FVec Ideal S16x16x1x4096 .f32 :=
  broadcastInDim S16x16x1x4096 ![0, 1, 2, 3] bcast_S16x16x1x1_S16x16x1x4096_0_1_2_3 (broadcastInDim S16x16x1x1 ![0, 1, 2] bcast_S16x16x1_S16x16x1x1_0_1_2 x)

theorem over_apply (x : FVec Ideal S16x16x1 .f32) (b h : Fin 16) (n : Fin 4096) : over x (ix4 b h 0 n) = x (ix3 b h 0) := by
  unfold over
  rw [broadcastInDim_apply (s := S16x16x1x1) (t := S16x16x1x4096) _ _ _ (ix4 b h 0 n) (ix4 b h 0 0) (fun a => match a with | ⟨0, _⟩ => rfl | ⟨1, _⟩ => rfl | ⟨2, _⟩ => rfl | ⟨3, _⟩ => rfl),
    broadcastInDim_apply (s := S16x16x1) (t := S16x16x1x1) _ _ _ (ix4 b h 0 0) (ix3 b h 0) (fun a => match a with | ⟨0, _⟩ => rfl | ⟨1, _⟩ => rfl | ⟨2, _⟩ => rfl)]

theorem reduces_last : S16x16x1x4096.Reduces [3] S16x16x1 := by decide
theorem lift_last (b h : Fin 16) (n : Fin 4096) : reduces_last.lift (ix3 b h 0) n = ix4 b h 0 n := by
  funext a
  match a with
  | ⟨0, _⟩ => rfl
  | ⟨1, _⟩ => rfl
  | ⟨2, _⟩ => rfl
  | ⟨3, _⟩ => rfl

def greatest (b h : Fin 16) : EReal := (Finset.univ : Finset (Fin 4096)).fold max ⊥ (sc Q K b h)

def maxima : FVec Ideal S16x16x1 .f32 := Host.reduce FloatOps.maximumf (scores Q K) (constant S_ .f32 0xFF800000#32) reducesTo_S16x16x1x4096_S16x16x1_d3 h_S_
theorem maxima_apply (b h : Fin 16) : maxima Q K (ix3 b h 0) = greatest Q K b h := by
  unfold maxima greatest
  refine (Host.reduce_eq_fold_single (max : EReal → EReal → EReal) _ _ reducesTo_S16x16x1x4096_S16x16x1_d3 reduces_last h_S_ (ix3 b h 0)).trans ?_
  show Finset.fold max (FloatOps.ofBits (F := Ideal) .f32 0xFF800000#32 : EReal) _ _ = _
  rw [Cert.KernelIdeal.Talk.least]
  exact congrArg (Finset.fold max ⊥ · _) (funext fun n => (congrArg _ (lift_last b h n)).trans (scores_apply Q K b h n))

def weights : FVec Ideal S16x16x1x4096 .f32 := Host.exp (subf (scores Q K) (over (maxima Q K)))
theorem weights_apply (b h : Fin 16) (n : Fin 4096) : weights Q K (ix4 b h 0 n) = Ideal.exp (sc Q K b h n - greatest Q K b h) := by
  unfold weights
  show Ideal.exp (scores Q K (ix4 b h 0 n) - over (maxima Q K) (ix4 b h 0 n)) = _
  rw [scores_apply, over_apply, maxima_apply]

def sums : FVec Ideal S16x16x1 .f32 := Host.reduceAdd (weights Q K) (constant S_ .f32 0x00000000#32) reducesTo_S16x16x1x4096_S16x16x1_d3 h_S_
theorem sums_apply (b h : Fin 16) : sums Q K (ix3 b h 0) = ∑ n, Ideal.exp (sc Q K b h n - greatest Q K b h) := by
  unfold sums
  refine (Ideal.hostReduceAdd_single reducesTo_S16x16x1x4096_S16x16x1_d3 reduces_last _ _ (ix3 b h 0)).trans ?_
  show (FloatOps.ofBits (F := Ideal) .f32 0x00000000#32 : EReal) + _ = _
  rw [show (FloatOps.ofBits (F := Ideal) .f32 0x00000000#32 : EReal) = 0 from Ideal.ofBits_zero_f32, zero_add]
  exact Finset.sum_congr rfl fun n _ => (congrArg _ (lift_last b h n)).trans (weights_apply Q K b h n)

/-- The reference's result. -/
def out : FVec Ideal S16x1x16x64 .f32 :=
  transpose S16x1x16x64 [0, 3, 1, 2] (Host.dotGeneral dot_S16x4096x16x64_S16x16x1x4096_S16x16x64x1_1_3_3_2_02_01 none (extf .f32 V bitsLt_bf16_f32) (Host.divf (weights Q K) (over (sums Q K)))) transposes_S16x16x64x1_S16x1x16x64_0_3_1_2

theorem out_apply (b h : Fin 16) (d : Fin 64) : out Q K V (ix4 b 0 h d)
    = ∑ n : Fin 4096, V (ix4 b n h d) * Ideal.div (Ideal.exp (sc Q K b h n - greatest Q K b h)) (∑ n, Ideal.exp (sc Q K b h n - greatest Q K b h)) := by
  unfold out
  rw [transpose_apply (s := S16x16x64x1) (t := S16x1x16x64) _ _ _ (ix4 b 0 h d) (ix4 b h d 0) (fun a => match a with | ⟨0, _⟩ => rfl | ⟨1, _⟩ => rfl | ⟨2, _⟩ => rfl | ⟨3, _⟩ => rfl)]
  refine (Ideal.dotGeneral_apply _ _ _ _ _ _).trans ?_
  rw [← Equiv.sum_comp eO.symm]
  refine Finset.sum_congr rfl fun n _ => ?_
  rw [dotO_l, dotO_r]
  refine congrArg (V (ix4 b n h d) * ·) ?_
  show Ideal.div (weights Q K (ix4 b h 0 n)) (over (sums Q K) (ix4 b h 0 n)) = _
  rw [weights_apply, over_apply, sums_apply]

end Cert.ReferenceIdeal.Talk
-- ==== Proof.Softmax.lean ====
/- A softmax-weighted sum over blocks, in the extended reals: what the blocks send each other, combined, is the weighted sum over
   the whole. Nothing is asked of the values that are summed; the scores and the maxima are real. -/
module

public import Idealize.ShloMosaic.PureOps.Ideal

@[expose] public section

noncomputable section

namespace Cert.Soft

open Idealize.ShloMosaic
open scoped BigOperators

section
variable {ι κ : Type} [Fintype ι] [Fintype κ]

theorem sum_coe (s : Finset ι) (f : ι → ℝ) : ∑ i ∈ s, ((f i : ℝ) : EReal) = ((∑ i ∈ s, f i : ℝ) : EReal) := by
  classical
  induction s using Finset.induction_on with
  | empty => simp
  | insert a t ha ih => rw [Finset.sum_insert ha, Finset.sum_insert ha, ih, EReal.coe_add]

/-- Multiplying by a real number that is not negative goes through a sum of extended reals. -/
theorem sum_mul_coe (s : Finset ι) (f : ι → EReal) {c : ℝ} (hc : 0 ≤ c) : (∑ i ∈ s, f i) * (c : EReal) = ∑ i ∈ s, f i * (c : EReal) := by
  classical
  induction s using Finset.induction_on with
  | empty => simp
  | insert a t ha ih =>
    rw [Finset.sum_insert ha, Finset.sum_insert ha, ← ih, mul_comm, mul_comm (f a), mul_comm (∑ i ∈ t, f i)]
    exact EReal.left_distrib_of_nonneg_of_ne_top (by exact_mod_cast hc) (EReal.coe_ne_top c) _ _

theorem div_coe (x : EReal) {y : ℝ} (hy : y ≠ 0) : Ideal.div x (y : EReal) = x * ((y⁻¹ : ℝ) : EReal) := by
  unfold Ideal.div
  rw [if_neg (by exact_mod_cast hy), EReal.coe_inv]

theorem exp_sub (a b : ℝ) : Ideal.exp ((a : EReal) - (b : EReal)) = ((Real.exp (a - b) : ℝ) : EReal) := by
  rw [← EReal.coe_sub]; rfl

/-- The greatest of finitely many real numbers, and of minus infinity, is real as soon as there is one. -/
theorem fold_max_coe (s : Finset ι) (hs : s.Nonempty) (f : ι → ℝ) : ∃ M : ℝ, s.fold max (⊥ : EReal) (fun i => ((f i : ℝ) : EReal)) = (M : EReal) := by
  classical
  induction hs using Finset.Nonempty.cons_induction with
  | singleton a => exact ⟨f a, by simp⟩
  | cons a t ha ht ih =>
    obtain ⟨M, hM⟩ := ih
    exact ⟨max (f a) M, by rw [Finset.fold_cons, hM]; exact (EReal.coe_strictMono.monotone.map_max).symm⟩

/-- THE LAW. With real scores `s`, any real shift `μ` for each block, any real shifts `M'` (the combination's) and `M` (the whole's):
    the blocks' sums rescaled, added and divided give the sum weighted by the whole softmax. -/
theorem law [Nonempty ι] [Nonempty κ] (s : ι → κ → ℝ) (v : ι → κ → EReal) (μ : ι → ℝ) (M' M : ℝ) :
    Ideal.div (∑ i, (∑ k, v i k * Ideal.exp ((s i k : EReal) - (μ i : EReal))) * Ideal.exp ((μ i : EReal) - (M' : EReal)))
        (∑ i, (∑ k, Ideal.exp ((s i k : EReal) - (μ i : EReal))) * Ideal.exp ((μ i : EReal) - (M' : EReal)))
      = ∑ i, ∑ k, v i k * Ideal.div (Ideal.exp ((s i k : EReal) - (M : EReal))) (∑ i, ∑ k, Ideal.exp ((s i k : EReal) - (M : EReal))) := by
  have hE : ∀ i k, Real.exp (s i k - μ i) * Real.exp (μ i - M') = Real.exp (s i k - M) * Real.exp (M - M') := fun i k => by
    rw [← Real.exp_add, ← Real.exp_add]; congr 1; ring
  set L : ℝ := ∑ i, ∑ k, Real.exp (s i k - M) with hL
  have hLpos : 0 < L := Finset.sum_pos (fun i _ => Finset.sum_pos (fun k _ => Real.exp_pos _) Finset.univ_nonempty) Finset.univ_nonempty
  have hc : (0 : ℝ) < Real.exp (M - M') := Real.exp_pos _
  have hnum : (∑ i, (∑ k, v i k * Ideal.exp ((s i k : EReal) - (μ i : EReal))) * Ideal.exp ((μ i : EReal) - (M' : EReal)))
      = ∑ i, ∑ k, v i k * ((Real.exp (s i k - M) * Real.exp (M - M') : ℝ) : EReal) := by
    refine Finset.sum_congr rfl fun i _ => ?_
    rw [exp_sub, sum_mul_coe _ _ (Real.exp_pos _).le]
    refine Finset.sum_congr rfl fun k _ => ?_
    rw [exp_sub, mul_assoc, ← EReal.coe_mul, hE]
  have hden : (∑ i, (∑ k, Ideal.exp ((s i k : EReal) - (μ i : EReal))) * Ideal.exp ((μ i : EReal) - (M' : EReal)))
      = ((L * Real.exp (M - M') : ℝ) : EReal) := by
    rw [hL, Finset.sum_mul, ← sum_coe]
    refine Finset.sum_congr rfl fun i _ => ?_
    rw [Finset.sum_mul, ← sum_coe, exp_sub, sum_mul_coe _ _ (Real.exp_pos _).le]
    refine Finset.sum_congr rfl fun k _ => ?_
    rw [exp_sub, ← EReal.coe_mul, hE]
  have hall : (∑ i, ∑ k, Ideal.exp ((s i k : EReal) - (M : EReal))) = (L : EReal) := by
    rw [hL, ← sum_coe]
    refine Finset.sum_congr rfl fun i _ => ?_
    rw [← sum_coe]
    exact Finset.sum_congr rfl fun k _ => exp_sub _ _
  have hden0 : L * Real.exp (M - M') ≠ 0 := (mul_pos hLpos hc).ne'
  rw [hnum, hden, hall, div_coe _ hden0, sum_mul_coe _ _ (inv_nonneg.2 (mul_pos hLpos hc).le)]
  refine Finset.sum_congr rfl fun i _ => ?_
  rw [sum_mul_coe _ _ (inv_nonneg.2 (mul_pos hLpos hc).le)]
  refine Finset.sum_congr rfl fun k _ => ?_
  rw [exp_sub, div_coe _ hLpos.ne', mul_assoc, ← EReal.coe_mul, ← EReal.coe_mul]
  congr 2
  field_simp

end

end Cert.Soft
-- ==== Proof.Agree.lean ====
/- The kernel's result and the reference's are equal where no query and no key is infinite. -/
module

public import proofs.«01_k».proof.Proof.Shares
public import proofs.«01_k».proof.Proof.Whole
public import proofs.«01_k».proof.Proof.Softmax
public import proofs.«01_k».proof.Pre_finite_KernelIdeal
public import Idealize.ShloMosaic.Lib.Layout

@[expose] public section

noncomputable section

namespace Cert.Agree

open Idealize.ShloMosaic Idealize.ShloMosaic.ValueIdx
open Cert.KernelIdeal.Talk (argQ argK argV res_apply sum_blocks)

/-- An extended real whose absolute value is below the greatest one is a real number. -/
theorem real_of_abs {x : EReal} (h : max x (-x) < ⊤) : ∃ r : ℝ, x = r := by
  induction x using EReal.rec with
  | bot => simp at h
  | coe r => exact ⟨r, rfl⟩
  | top => simp at h

theorem infinite_bits : FloatOps.ofBits (F := Ideal) .bf16 0x7F80#16 = (⊤ : EReal) := by
  show Ideal.ofBits _ _ = _
  simp [Ideal.ofBits, Ideal.ieee]

/-- What the comparison of the precondition says of one element. -/
theorem real_of_bit {x : EReal} (h : FloatOps.cmpf (F := Ideal) (φ := .bf16) .olt (max x (-x) : EReal) (FloatOps.ofBits (F := Ideal) .bf16 0x7F80#16) = 1#1) : ∃ r : ℝ, x = r := by
  rw [infinite_bits] at h
  apply real_of_abs
  by_contra hn
  rw [Ideal.cmpf_def] at h
  simp only [Ideal.cmp, decide_eq_false hn] at h
  exact absurd h (by decide)

instance preFacts : Cert.Pre_finite_KernelIdeal.Facts := ⟨by decide, by decide⟩

theorem reals {Q : FVec Ideal ⟨4, ![16, 1, 16, 64]⟩ .bf16} {K V : FVec Ideal ⟨4, ![16, 1024, 16, 64]⟩ .bf16}
    (h : (Cert.Pre_finite_KernelIdeal.fn Q K V).1 = (fun _ => 1#1) ∧ (Cert.Pre_finite_KernelIdeal.fn Q K V).2 = (fun _ => 1#1)) :
    (∀ i, ∃ r : ℝ, Q i = (r : EReal)) ∧ ∀ i, ∃ r : ℝ, K i = (r : EReal) :=
  ⟨fun i => real_of_bit (congrFun h.1 i), fun i => real_of_bit (congrFun h.2 i)⟩

section
variable (m : (ℓ : Loc Cert.KernelIdeal.nD Cert.KernelIdeal.τ Cert.KernelIdeal.sig) → Buf (Elt Ideal) ℓ)
variable (Q : FVec Ideal Cert.ReferenceIdeal.S16x1x16x64 .bf16) (K V : FVec Ideal Cert.ReferenceIdeal.S16x4096x16x64 .bf16)

/-- Key `n` of device `c` among all the keys. -/
abbrev key (c : Fin 4) (n : Fin 1024) : Fin 4096 := ⟨c.val * 1024 + n.val, by omega⟩

theorem block_key (c : Fin 4) (x : (⟨4, ![16, 4096, 16, 64]⟩ : Shape).Idx → EReal) (b h : Fin 16) (d : Fin 64) (n : Fin 1024) :
    Layout.block ⟨4, ![16, 1024, 16, 64]⟩ ⟨4, ![16, 4096, 16, 64]⟩ 1 4 c x (by decide) (ix4 b n h d) = x (ix4 b (key c n) h d) := by
  rw [Layout.block_apply]
  refine congrArg x (funext fun a => Fin.ext ?_)
  rw [Layout.Tiles.idx_val]
  match a with
  | ⟨0, _⟩ => rfl
  | ⟨1, _⟩ => rfl
  | ⟨2, _⟩ => rfl
  | ⟨3, _⟩ => rfl

variable (hQ : ∀ c, argQ m c = Q)
  (hK : ∀ c : Fin 4, argK m c = Layout.block ⟨4, ![16, 1024, 16, 64]⟩ ⟨4, ![16, 4096, 16, 64]⟩ 1 4 c K (by decide))
  (hV : ∀ c : Fin 4, argV m c = Layout.block ⟨4, ![16, 1024, 16, 64]⟩ ⟨4, ![16, 4096, 16, 64]⟩ 1 4 c V (by decide))
  (rQ : ∀ c i, ∃ r : ℝ, argQ m c i = (r : EReal)) (rK : ∀ c i, ∃ r : ℝ, argK m c i = (r : EReal))

include hQ hK in
theorem sc_eq (b h : Fin 16) (c : Fin 4) (n : Fin 1024) : Cert.ReferenceIdeal.Talk.sc Q K b h (key c n) = Cert.KernelIdeal.Talk.sc m b h c n := by
  unfold Cert.ReferenceIdeal.Talk.sc Cert.KernelIdeal.Talk.sc
  refine congrArg (· * _) (Finset.sum_congr rfl fun d _ => ?_)
  rw [hQ c, hK c, block_key]

include rQ rK in
/-- The scores are real. -/
theorem sc_real (b h : Fin 16) : ∃ s : Fin 4 → Fin 1024 → ℝ, ∀ c n, Cert.KernelIdeal.Talk.sc m b h c n = ((s c n : ℝ) : EReal) := by
  choose q hq using rQ
  choose k hk using rK
  refine ⟨fun c n => (∑ d, q c (ix4 b 0 h d) * k c (ix4 b n h d)) * (1 / 8), fun c n => ?_⟩
  unfold Cert.KernelIdeal.Talk.sc
  rw [EReal.coe_mul, ← Cert.Soft.sum_coe]
  refine congrArg (· * _) (Finset.sum_congr rfl fun d _ => ?_)
  rw [hq, hk, EReal.coe_mul]

include hQ hK hV rQ rK in
theorem agree_at (b h : Fin 16) (d : Fin 64) : Cert.KernelIdeal.Talk.res m (ix4 b 0 h d) = Cert.ReferenceIdeal.Talk.out Q K V (ix4 b 0 h d) := by
  obtain ⟨s, hs⟩ := sc_real m rQ rK b h
  have hμ : ∀ c, ∃ μ : ℝ, Cert.KernelIdeal.Talk.greatest m b h c = (μ : EReal) := fun c => by
    unfold Cert.KernelIdeal.Talk.greatest
    simp only [hs]
    exact Cert.Soft.fold_max_coe _ Finset.univ_nonempty _
  choose μ hμ using hμ
  obtain ⟨M', hM'⟩ : ∃ M' : ℝ, (Finset.univ : Finset (Fin 4)).fold max ⊥ (Cert.KernelIdeal.Talk.greatest m b h) = (M' : EReal) := by
    rw [show Cert.KernelIdeal.Talk.greatest m b h = fun c => ((μ c : ℝ) : EReal) from funext hμ]
    exact Cert.Soft.fold_max_coe _ Finset.univ_nonempty _
  have hr : ∀ n : Fin 4096, ∃ r : ℝ, Cert.ReferenceIdeal.Talk.sc Q K b h n = (r : EReal) := fun n => by
    refine ⟨s ⟨n.val / 1024, by omega⟩ ⟨n.val % 1024, by omega⟩, ?_⟩
    rw [← hs, ← sc_eq m Q K hQ hK]
    exact congrArg _ (Fin.ext (by show n.val = n.val / 1024 * 1024 + n.val % 1024; omega))
  choose r hr using hr
  obtain ⟨M, hM⟩ : ∃ M : ℝ, Cert.ReferenceIdeal.Talk.greatest Q K b h = (M : EReal) := by
    unfold Cert.ReferenceIdeal.Talk.greatest
    rw [show Cert.ReferenceIdeal.Talk.sc Q K b h = fun n => ((r n : ℝ) : EReal) from funext hr]
    exact Cert.Soft.fold_max_coe _ Finset.univ_nonempty _
  rw [res_apply, Cert.ReferenceIdeal.Talk.out_apply, hM', hM]
  rw [sum_blocks (a := 4) (b := 1024) rfl (fun n : Fin 4096 => Ideal.exp (Cert.ReferenceIdeal.Talk.sc Q K b h n - (M : EReal))),
    sum_blocks (a := 4) (b := 1024) rfl (fun n : Fin 4096 => V (ix4 b n h d) * _)]
  have hv : ∀ c n, V (ix4 b (key c n) h d) = argV m c (ix4 b n h d) := fun c n => by rw [hV c, block_key]
  have hk : ∀ c n, Cert.ReferenceIdeal.Talk.sc Q K b h (key c n) = ((s c n : ℝ) : EReal) := fun c n => (sc_eq m Q K hQ hK b h c n).trans (hs c n)
  simp only [hv, hk, hs, hμ]
  exact Cert.Soft.law s (fun c n => argV m c (ix4 b n h d)) μ M' M

include hQ hK hV rQ rK in
theorem agree : Cert.KernelIdeal.Talk.res m = Cert.ReferenceIdeal.Talk.out Q K V := by
  funext i
  have h1 : i = ix4 (i 0) 0 (i 2) (i 3) := by
    funext a
    match a with
    | ⟨0, _⟩ => rfl
    | ⟨1, _⟩ => exact Fin.ext (Nat.lt_one_iff.1 (i 1).isLt)
    | ⟨2, _⟩ => rfl
    | ⟨3, _⟩ => rfl
  rw [h1]
  exact agree_at m Q K V hQ hK hV rQ rK (i 0) (i 2) (i 3)
end

end Cert.Agree
-- ==== Proof.lean ====
/- The claim of this directory: each of the three programs runs to its end from every start, the idealized
   kernel is the kernel, and over the extended reals every device's result is the whole reference result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Printed.End
public import proofs.«01_k».proof.Proof.End
public import proofs.«01_k».proof.Proof.Agree
public import Idealize.ShloMosaic.Adequacy
public import Idealize.ShloMosaic.Init

@[expose] public section

noncomputable section

namespace Cert.Proof

open Idealize.ShloMosaic Idealize.SL.Sem

/-- The kernel ends on every device, its arguments unchanged and every semaphore at zero. -/
theorem frame_Kernel : Cert.quiescent_Kernel (hKernel := Cert.Kernel.Gen.facts) := fun m g _ =>
  (θ_run _ _ _).mono (fun _ h => ⟨fun c => (h.1 c).2, h.2⟩) (Cert.Kernel.Talk.run_all m g)

/-- The same of the idealized kernel. -/
theorem frame_KernelIdeal : Cert.quiescent_KernelIdeal (hKernelIdeal := Cert.KernelIdeal.Gen.facts) := fun m g _ =>
  (θ_run _ _ _).mono (fun _ h => ⟨fun c => (h.1 c).2, h.2⟩) (Cert.KernelIdeal.Talk.run_all m g)

/-- The same of the reference, which has no semaphore at all. -/
theorem frame_ReferenceIdeal : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The reference ends with its result as `out` says. -/
theorem run_ReferenceIdeal (m) (g) : θ_run (Cert.ReferenceIdeal.defs (F := Ideal)) (onTc (τ := Cert.ReferenceIdeal.τ) (Cert.ReferenceIdeal.main (F := Ideal))) ⟨m, fun _ => 0, g⟩ fun r =>
    r.2.mem (((0 : Dev Cert.ReferenceIdeal.nD).tc : Thread Cert.ReferenceIdeal.nD Cert.ReferenceIdeal.τ).loc Cert.ReferenceIdeal.main_v16)
      = Cert.ReferenceIdeal.Talk.out (m (((0 : Dev Cert.ReferenceIdeal.nD).tc : Thread Cert.ReferenceIdeal.nD Cert.ReferenceIdeal.τ).loc Cert.ReferenceIdeal.main_arg0))
          (m (((0 : Dev Cert.ReferenceIdeal.nD).tc : Thread Cert.ReferenceIdeal.nD Cert.ReferenceIdeal.τ).loc Cert.ReferenceIdeal.main_arg1))
          (m (((0 : Dev Cert.ReferenceIdeal.nD).tc : Thread Cert.ReferenceIdeal.nD Cert.ReferenceIdeal.τ).loc Cert.ReferenceIdeal.main_arg2))
    ∧ r.2.mem (((0 : Dev Cert.ReferenceIdeal.nD).tc : Thread Cert.ReferenceIdeal.nD Cert.ReferenceIdeal.τ).loc Cert.ReferenceIdeal.main_arg0) = m (((0 : Dev Cert.ReferenceIdeal.nD).tc : Thread Cert.ReferenceIdeal.nD Cert.ReferenceIdeal.τ).loc Cert.ReferenceIdeal.main_arg0)
    ∧ r.2.mem (((0 : Dev Cert.ReferenceIdeal.nD).tc : Thread Cert.ReferenceIdeal.nD Cert.ReferenceIdeal.τ).loc Cert.ReferenceIdeal.main_arg1) = m (((0 : Dev Cert.ReferenceIdeal.nD).tc : Thread Cert.ReferenceIdeal.nD Cert.ReferenceIdeal.τ).loc Cert.ReferenceIdeal.main_arg1)
    ∧ r.2.mem (((0 : Dev Cert.ReferenceIdeal.nD).tc : Thread Cert.ReferenceIdeal.nD Cert.ReferenceIdeal.τ).loc Cert.ReferenceIdeal.main_arg2) = m (((0 : Dev Cert.ReferenceIdeal.nD).tc : Thread Cert.ReferenceIdeal.nD Cert.ReferenceIdeal.τ).loc Cert.ReferenceIdeal.main_arg2) :=
  (θ_run _ _ _).mono (fun _ h => h 0) (Cert.ReferenceIdeal.Value.run m g)

/-- The side facts of the precondition's program, as the reference states it. -/
instance preFactsRef : Cert.Pre_finite_ReferenceIdeal.Facts := ⟨by decide, by decide⟩

/-- With finite queries and keys, the result of the kernel on every device is the result of the reference. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Agree.preFacts) := fun m g m' g' hp hm =>
  ⟨_, (θ_run _ _ _).mono (fun _ h c => ⟨(h.1 c).1.trans (Cert.Agree.agree m _ _ _ (fun c => (hm c).1) (fun c => (hm c).2.1) (fun c => (hm c).2.2)
        (fun c => (Cert.Agree.reals (hp c)).1) (fun c => (Cert.Agree.reals (hp c)).2)), (h.1 c).2⟩) (Cert.KernelIdeal.Talk.run_all m g),
    run_ReferenceIdeal m' g'⟩

/-- All the claims together. -/
theorem claim : Cert.Claim :=
  ⟨Cert.Kernel.Gen.facts, Cert.KernelIdeal.Gen.facts, Cert.ReferenceIdeal.Gen.facts, Cert.Agree.preFacts, preFactsRef,
    frame_Kernel, frame_KernelIdeal, fun m g _ => frame_KernelIdeal m g trivial, frame_ReferenceIdeal,
    fun m g _ => frame_ReferenceIdeal m g trivial, trivial, algebraic⟩

end Cert.Proof

end
